-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_opacities_nonnegative [hPre_opacities_nonnegative : Cert.Pre_opacities_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_opacities_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_opacities_nonnegative [hPre_opacities_nonnegative : Cert.Pre_opacities_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_opacities_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_opacities_nonnegative [hKernelIdeal : Cert.KernelIdeal.Facts] [hPre_opacities_nonnegative : Cert.Pre_opacities_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_opacities_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_opacities_nonnegative [hReferenceIdeal : Cert.ReferenceIdeal.Facts] [hPre_opacities_nonnegative : Cert.Pre_opacities_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_opacities_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_opacities_nonnegative [hKernelIdeal : Cert.KernelIdeal.Facts] [hReferenceIdeal : Cert.ReferenceIdeal.Facts] [hPre_opacities_nonnegative : Cert.Pre_opacities_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_opacities_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_opacities_nonnegative : Cert.Pre_opacities_nonnegative.Facts),
    quiescent_Kernel (hKernel := hKernel)
    ∧ quiescent_KernelIdeal (hKernelIdeal := hKernelIdeal)
    ∧ quiescent_KernelIdeal_pre_opacities_nonnegative (hKernelIdeal := hKernelIdeal) (hPre_opacities_nonnegative := hPre_opacities_nonnegative)
    ∧ quiescent_ReferenceIdeal (hReferenceIdeal := hReferenceIdeal)
    ∧ quiescent_ReferenceIdeal_pre_opacities_nonnegative (hReferenceIdeal := hReferenceIdeal) (hPre_opacities_nonnegative := hPre_opacities_nonnegative)
    ∧ preserves_Kernel_KernelIdeal
    ∧ algebraic_KernelIdeal_ReferenceIdeal_pre_opacities_nonnegative (hKernelIdeal := hKernelIdeal) (hReferenceIdeal := hReferenceIdeal) (hPre_opacities_nonnegative := hPre_opacities_nonnegative)
-- ==== Pre_opacities_nonnegative.lean ====
abbrev S2x10x384x384 : Shape := ⟨4, ![2, 10, 384, 384]⟩
abbrev S2x1 : Shape := ⟨2, ![2, 1]⟩
abbrev S2x2x5x384x384 : Shape := ⟨5, ![2, 2, 5, 384, 384]⟩
abbrev S2x2x1x384x384 : Shape := ⟨5, ![2, 2, 1, 384, 384]⟩
abbrev S2x2x384x384 : Shape := ⟨4, ![2, 2, 384, 384]⟩
abbrev S_ : Shape := ⟨0, ![]⟩

class Facts : Prop where
  shapeCasts_S2x10x384x384_S2x2x5x384x384 : S2x10x384x384.ShapeCasts S2x2x5x384x384
  slices_S2x2x5x384x384_S2x2x1x384x384_0_0_3_0_0 : S2x2x5x384x384.Slices ![0, 0, 3, 0, 0] S2x2x1x384x384
  shapeCasts_S2x2x1x384x384_S2x2x384x384 : S2x2x1x384x384.ShapeCasts S2x2x384x384
  bcast_S_S2x2x384x384 : S_.BroadcastsInDim S2x2x384x384 (![] : Fin 0 → Fin S2x2x384x384.rank)

variable [Facts]

def fn {F : FTy → Type} [FloatOps F] (main_arg0 : FVec F S2x10x384x384 .f32) (main_arg1 : FVec F S2x1 .f32) (main_arg2 : FVec F S2x10x384x384 .f32) : IVec S2x2x384x384 1 :=
  let main_v0 : FVec F S2x10x384x384 .f32 := subf main_arg0 main_arg2
  let main_v1 : FVec F S2x2x5x384x384 .f32 := shapeCast S2x2x5x384x384 main_v0 shapeCasts_S2x10x384x384_S2x2x5x384x384
  let main_v2 : FVec F S2x2x1x384x384 .f32 := (extractStridedSlice S2x2x1x384x384 ![0, 0, 3, 0, 0] · slices_S2x2x5x384x384_S2x2x1x384x384_0_0_3_0_0) main_v1
  let main_v3 : FVec F S2x2x384x384 .f32 := shapeCast S2x2x384x384 main_v2 shapeCasts_S2x2x1x384x384_S2x2x384x384
  let main_cst : FVec F S_ .f32 := constant S_ .f32 0x00000000#32
  let main_v4 : FVec F S2x2x384x384 .f32 := broadcastInDim S2x2x384x384 ![] bcast_S_S2x2x384x384 main_cst
  let main_v5 : IVec S2x2x384x384 1 := cmpf .oge main_v3 main_v4
  main_v5
-- ==== Kernel.lean ====
abbrev S2x10x384x384 : Shape := ⟨4, ![2, 10, 384, 384]⟩
abbrev S2x1 : Shape := ⟨2, ![2, 1]⟩
abbrev S2 : Shape := ⟨1, ![2]⟩
abbrev S2x3x384x384 : Shape := ⟨4, ![2, 3, 384, 384]⟩
abbrev S1x10x128x384 : Shape := ⟨4, ![1, 10, 128, 384]⟩
abbrev S1x3x128x384 : Shape := ⟨4, ![1, 3, 128, 384]⟩
abbrev S10x400x512 : Shape := ⟨3, ![10, 400, 512]⟩
abbrev S5x144x512 : Shape := ⟨3, ![5, 144, 512]⟩
abbrev S7x5x128x512 : Shape := ⟨4, ![7, 5, 128, 512]⟩
abbrev S1 : Shape := ⟨1, ![1]⟩
abbrev S1x1x128x384 : Shape := ⟨4, ![1, 1, 128, 384]⟩
abbrev S128x384 : Shape := ⟨2, ![128, 384]⟩
abbrev S128x1 : Shape := ⟨2, ![128, 1]⟩
abbrev S128x3 : Shape := ⟨2, ![128, 3]⟩
abbrev S128x125 : Shape := ⟨2, ![128, 125]⟩
abbrev S128x512 : Shape := ⟨2, ![128, 512]⟩
abbrev S1x128x512 : Shape := ⟨3, ![1, 128, 512]⟩
abbrev S1x1x1x384 : Shape := ⟨4, ![1, 1, 1, 384]⟩
abbrev S1x384 : Shape := ⟨2, ![1, 384]⟩
abbrev S1x1 : Shape := ⟨2, ![1, 1]⟩
abbrev S1x3 : Shape := ⟨2, ![1, 3]⟩
abbrev S1x125 : Shape := ⟨2, ![1, 125]⟩
abbrev S1x512 : Shape := ⟨2, ![1, 512]⟩
abbrev S3x512 : Shape := ⟨2, ![3, 512]⟩
abbrev S1x3x512 : Shape := ⟨3, ![1, 3, 512]⟩
abbrev S1x144x512 : Shape := ⟨3, ![1, 144, 512]⟩
abbrev S144x512 : Shape := ⟨2, ![144, 512]⟩
abbrev S5x128x512 : Shape := ⟨3, ![5, 128, 512]⟩
abbrev S1x5x128x512 : Shape := ⟨4, ![1, 5, 128, 512]⟩
abbrev S1x4x128x512 : Shape := ⟨4, ![1, 4, 128, 512]⟩
abbrev S4x128x512 : Shape := ⟨3, ![4, 128, 512]⟩
abbrev S1x1x128x512 : Shape := ⟨4, ![1, 1, 128, 512]⟩
abbrev S4x128x384 : Shape := ⟨3, ![4, 128, 384]⟩
abbrev S1x128x384 : Shape := ⟨3, ![1, 128, 384]⟩
abbrev S3x128x384 : Shape := ⟨3, ![3, 128, 384]⟩

abbrev nBuf : Space → Nat
  | .hbm => 5
  | .vmem => 9
  | .smem => 1
  | _ => 0

abbrev bufTy : (tb : Table) → Fin (tcTables nBuf tb) → BufTy
  | .hbm, ⟨0, _⟩ => ⟨S2x10x384x384, .f32⟩
  | .hbm, ⟨1, _⟩ => ⟨S2x1, .f32⟩
  | .hbm, ⟨2, _⟩ => ⟨S2x10x384x384, .f32⟩
  | .hbm, ⟨3, _⟩ => ⟨S2, .f32⟩
  | .hbm, ⟨4, _⟩ => ⟨S2x3x384x384, .f32⟩
  | .local _ .vmem, ⟨0, _⟩ => ⟨S1x10x128x384, .f32⟩
  | .local _ .vmem, ⟨1, _⟩ => ⟨S1x10x128x384, .f32⟩
  | .local _ .vmem, ⟨2, _⟩ => ⟨S1x10x128x384, .f32⟩
  | .local _ .vmem, ⟨3, _⟩ => ⟨S1x10x128x384, .f32⟩
  | .local _ .vmem, ⟨4, _⟩ => ⟨S1x3x128x384, .f32⟩
  | .local _ .vmem, ⟨5, _⟩ => ⟨S1x3x128x384, .f32⟩
  | .local _ .vmem, ⟨6, _⟩ => ⟨S10x400x512, .f32⟩
  | .local _ .vmem, ⟨7, _⟩ => ⟨S5x144x512, .f32⟩
  | .local _ .vmem, ⟨8, _⟩ => ⟨S7x5x128x512, .f32⟩
  | .local _ .smem, ⟨0, _⟩ => ⟨S2, .f32⟩
  | _, _ => ⟨S2x10x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c3_i32 : BitVec 32 := 3#32
  let v2 : BitVec 1 := Scalar.cmpi .slt arg1 c3_i32
  let v3 : BitVec 32 := Scalar.extui v2
  let c0_i32 : BitVec 32 := 0#32
  let v4 : BitVec 1 := Scalar.cmpi .ne v3 c0_i32
  v4

def k0_off2 (i : grid0.Coords) : Fin 3 → Nat :=
  let c0_12 : Index := 0#32
  let c8_i32 : BitVec 32 := 8#32
  let arg1 : BitVec 32 := BitVec.ofNat 32 (i 1).val
  let c128_i32 : BitVec 32 := 128#32
  let v26 : BitVec 32 := Scalar.muli arg1 c128_i32
  let v27 : BitVec 32 := Scalar.addi c8_i32 v26
  let v28 : Index := Scalar.indexCast v27
  let c0_13 : Index := 0#32
  ![0, v28.toNat, 0]
def k0_off3 (i : grid0.Coords) : Fin 3 → Nat :=
  let c1_23 : Index := 1#32
  let c8_i32_22 : BitVec 32 := 8#32
  let arg1 : BitVec 32 := BitVec.ofNat 32 (i 1).val
  let c128_i32_21 : BitVec 32 := 128#32
  let v44 : BitVec 32 := Scalar.muli arg1 c128_i32_21
  let v45 : BitVec 32 := Scalar.addi c8_i32_22 v44
  let v46 : Index := Scalar.indexCast v45
  let c0_24 : Index := 0#32
  ![1, v46.toNat, 0]
def k0_off4 (i : grid0.Coords) : Fin 3 → Nat :=
  let c2_34 : Index := 2#32
  let c8_i32_33 : BitVec 32 := 8#32
  let arg1 : BitVec 32 := BitVec.ofNat 32 (i 1).val
  let c128_i32_32 : BitVec 32 := 128#32
  let v62 : BitVec 32 := Scalar.muli arg1 c128_i32_32
  let v63 : BitVec 32 := Scalar.addi c8_i32_33 v62
  let v64 : Index := Scalar.indexCast v63
  let c0_35 : Index := 0#32
  ![2, v64.toNat, 0]
def k0_off5 (i : grid0.Coords) : Fin 3 → Nat :=
  let c3_45 : Index := 3#32
  let c8_i32_44 : BitVec 32 := 8#32
  let arg1 : BitVec 32 := BitVec.ofNat 32 (i 1).val
  let c128_i32_43 : BitVec 32 := 128#32
  let v80 : BitVec 32 := Scalar.muli arg1 c128_i32_43
  let v81 : BitVec 32 := Scalar.addi c8_i32_44 v80
  let v82 : Index := Scalar.indexCast v81
  let c0_46 : Index := 0#32
  ![3, v82.toNat, 0]
def k0_off6 (i : grid0.Coords) : Fin 3 → Nat :=
  let c4_56 : Index := 4#32
  let c8_i32_55 : BitVec 32 := 8#32
  let arg1 : BitVec 32 := BitVec.ofNat 32 (i 1).val
  let c128_i32_54 : BitVec 32 := 128#32
  let v98 : BitVec 32 := Scalar.muli arg1 c128_i32_54
  let v99 : BitVec 32 := Scalar.addi c8_i32_55 v98
  let v100 : Index := Scalar.indexCast v99
  let c0_57 : Index := 0#32
  ![4, v100.toNat, 0]
def k0_off7 (i : grid0.Coords) : Fin 3 → Nat :=
  let c5_67 : Index := 5#32
  let c8_i32_66 : BitVec 32 := 8#32
  let arg1 : BitVec 32 := BitVec.ofNat 32 (i 1).val
  let c128_i32_65 : BitVec 32 := 128#32
  let v116 : BitVec 32 := Scalar.muli arg1 c128_i32_65
  let v117 : BitVec 32 := Scalar.addi c8_i32_66 v116
  let v118 : Index := Scalar.indexCast v117
  let c0_68 : Index := 0#32
  ![5, v118.toNat, 0]
def k0_off8 (i : grid0.Coords) : Fin 3 → Nat :=
  let c6_78 : Index := 6#32
  let c8_i32_77 : BitVec 32 := 8#32
  let arg1 : BitVec 32 := BitVec.ofNat 32 (i 1).val
  let c128_i32_76 : BitVec 32 := 128#32
  let v134 : BitVec 32 := Scalar.muli arg1 c128_i32_76
  let v135 : BitVec 32 := Scalar.addi c8_i32_77 v134
  let v136 : Index := Scalar.indexCast v135
  let c0_79 : Index := 0#32
  ![6, v136.toNat, 0]
def k0_off9 (i : grid0.Coords) : Fin 3 → Nat :=
  let c7_89 : Index := 7#32
  let c8_i32_88 : BitVec 32 := 8#32
  let arg1 : BitVec 32 := BitVec.ofNat 32 (i 1).val
  let c128_i32_87 : BitVec 32 := 128#32
  let v152 : BitVec 32 := Scalar.muli arg1 c128_i32_87
  let v153 : BitVec 32 := Scalar.addi c8_i32_88 v152
  let v154 : Index := Scalar.indexCast v153
  let c0_90 : Index := 0#32
  ![7, v154.toNat, 0]
def k0_off10 (i : grid0.Coords) : Fin 3 → Nat :=
  let c8_100 : Index := 8#32
  let c8_i32_99 : BitVec 32 := 8#32
  let arg1 : BitVec 32 := BitVec.ofNat 32 (i 1).val
  let c128_i32_98 : BitVec 32 := 128#32
  let v170 : BitVec 32 := Scalar.muli arg1 c128_i32_98
  let v171 : BitVec 32 := Scalar.addi c8_i32_99 v170
  let v172 : Index := Scalar.indexCast v171
  let c0_101 : Index := 0#32
  ![8, v172.toNat, 0]
def k0_off11 (i : grid0.Coords) : Fin 3 → Nat :=
  let c9_111 : Index := 9#32
  let c8_i32_110 : BitVec 32 := 8#32
  let arg1 : BitVec 32 := BitVec.ofNat 32 (i 1).val
  let c128_i32_109 : BitVec 32 := 128#32
  let v188 : BitVec 32 := Scalar.muli arg1 c128_i32_109
  let v189 : BitVec 32 := Scalar.addi c8_i32_110 v188
  let v190 : Index := Scalar.indexCast v189
  let c0_112 : Index := 0#32
  ![9, v190.toNat, 0]
def k0_cond4 (i : grid0.Coords) : BitVec 1 :=
  let arg1 : BitVec 32 := BitVec.ofNat 32 (i 1).val
  let c0_i32_3 : BitVec 32 := 0#32
  let v11 : BitVec 1 := Scalar.cmpi .sgt arg1 c0_i32_3
  let v12 : BitVec 32 := Scalar.extui v11
  let c0_i32_4 : BitVec 32 := 0#32
  let v13 : BitVec 1 := Scalar.cmpi .ne v12 c0_i32_4
  v13

def k0_off12 (i : grid0.Coords) : Fin 3 → Nat :=
  let c0 : Index := 0#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v16 : Index := Scalar.indexCast v15
  let c0_5 : Index := 0#32
  ![0, v16.toNat, 0]
def k0_off13 (i : grid0.Coords) : Fin 3 → Nat :=
  let c1 : Index := 1#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v19 : Index := Scalar.indexCast v15
  let c0_6 : Index := 0#32
  ![1, v19.toNat, 0]
def k0_off14 (i : grid0.Coords) : Fin 3 → Nat :=
  let c2 : Index := 2#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v22 : Index := Scalar.indexCast v15
  let c0_7 : Index := 0#32
  ![2, v22.toNat, 0]
def k0_off15 (i : grid0.Coords) : Fin 3 → Nat :=
  let c3 : Index := 3#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v25 : Index := Scalar.indexCast v15
  let c0_8 : Index := 0#32
  ![3, v25.toNat, 0]
def k0_off16 (i : grid0.Coords) : Fin 3 → Nat :=
  let c4 : Index := 4#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v28 : Index := Scalar.indexCast v15
  let c0_9 : Index := 0#32
  ![4, v28.toNat, 0]
def k0_off17 (i : grid0.Coords) : Fin 3 → Nat :=
  let c5_266 : Index := 5#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v355 : Index := Scalar.indexCast v15
  let c0_267 : Index := 0#32
  ![5, v355.toNat, 0]
def k0_off18 (i : grid0.Coords) : Fin 3 → Nat :=
  let c6_268 : Index := 6#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v358 : Index := Scalar.indexCast v15
  let c0_269 : Index := 0#32
  ![6, v358.toNat, 0]
def k0_off19 (i : grid0.Coords) : Fin 3 → Nat :=
  let c7_270 : Index := 7#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v361 : Index := Scalar.indexCast v15
  let c0_271 : Index := 0#32
  ![7, v361.toNat, 0]
def k0_off20 (i : grid0.Coords) : Fin 3 → Nat :=
  let c8_272 : Index := 8#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v364 : Index := Scalar.indexCast v15
  let c0_273 : Index := 0#32
  ![8, v364.toNat, 0]
def k0_off21 (i : grid0.Coords) : Fin 3 → Nat :=
  let c9_274 : Index := 9#32
  let arg1 : BitVec 32 := BitVec.ofNat 32 (i 1).val
  let c1_i32 : BitVec 32 := 1#32
  let v14 : BitVec 32 := Scalar.subi arg1 c1_i32
  let c128_i32 : BitVec 32 := 128#32
  let v15 : BitVec 32 := Scalar.muli v14 c128_i32
  let v367 : Index := Scalar.indexCast v15
  let c0_275 : Index := 0#32
  ![9, v367.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x10x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x10x384x384 : Shape := ⟨4, ![2, 10, 384, 384]⟩
abbrev S2x1 : Shape := ⟨2, ![2, 1]⟩
abbrev S7x7x1x1x1x1x1 : Shape := ⟨7, ![7, 7, 1, 1, 1, 1, 1]⟩
abbrev S2x2x5x384x384 : Shape := ⟨5, ![2, 2, 5, 384, 384]⟩
abbrev S2x2x3x384x384 : Shape := ⟨5, ![2, 2, 3, 384, 384]⟩
abbrev S2x2x1x384x384 : Shape := ⟨5, ![2, 2, 1, 384, 384]⟩
abbrev S2x1x1x1x1 : Shape := ⟨5, ![2, 1, 1, 1, 1]⟩
abbrev S_ : Shape := ⟨0, ![]⟩
abbrev S1x1x2x2x1x384x384 : Shape := ⟨7, ![1, 1, 2, 2, 1, 384, 384]⟩
abbrev S7x7x2x2x1x384x384 : Shape := ⟨7, ![7, 7, 2, 2, 1, 384, 384]⟩
abbrev S2x2x6x384x384 : Shape := ⟨5, ![2, 2, 6, 384, 384]⟩
abbrev S2x2x6x384x1 : Shape := ⟨5, ![2, 2, 6, 384, 1]⟩
abbrev S2x2x6x384x390 : Shape := ⟨5, ![2, 2, 6, 384, 390]⟩
abbrev S2x2x6x1x390 : Shape := ⟨5, ![2, 2, 6, 1, 390]⟩
abbrev S2x2x6x390x390 : Shape := ⟨5, ![2, 2, 6, 390, 390]⟩
abbrev S2x2x6x390x384 : Shape := ⟨5, ![2, 2, 6, 390, 384]⟩
abbrev S1x2x2x6x390x384 : Shape := ⟨6, ![1, 2, 2, 6, 390, 384]⟩
abbrev S7x2x2x6x390x384 : Shape := ⟨6, ![7, 2, 2, 6, 390, 384]⟩
abbrev S7x2x2x6x384x384 : Shape := ⟨6, ![7, 2, 2, 6, 384, 384]⟩
abbrev S1x7x2x2x6x384x384 : Shape := ⟨7, ![1, 7, 2, 2, 6, 384, 384]⟩
abbrev S7x7x2x2x6x384x384 : Shape := ⟨7, ![7, 7, 2, 2, 6, 384, 384]⟩
abbrev S7x7x2x2x4x384x384 : Shape := ⟨7, ![7, 7, 2, 2, 4, 384, 384]⟩
abbrev S2x2x4x384x384 : Shape := ⟨5, ![2, 2, 4, 384, 384]⟩
abbrev S2x1x3x384x384 : Shape := ⟨5, ![2, 1, 3, 384, 384]⟩
abbrev S2x3x384x384 : Shape := ⟨4, ![2, 3, 384, 384]⟩
abbrev S2x1x1x384x384 : Shape := ⟨5, ![2, 1, 1, 384, 384]⟩
abbrev S2x1x384x384 : Shape := ⟨4, ![2, 1, 384, 384]⟩

abbrev nBuf : Space → Nat
  | .hbm => 133
  | .vmem => 0
  | .smem => 0
  | _ => 0

abbrev hbmTy0_0 (i : Nat) : BufTy := match i % 128 with
  | 0 => ⟨S2x10x384x384, .f32⟩
  | 1 => ⟨S2x1, .f32⟩
  | 2 => ⟨S2x10x384x384, .f32⟩
  | 3 => ⟨S7x7x1x1x1x1x1, .f32⟩
  | 4 => ⟨S7x7x1x1x1x1x1, .f32⟩
  | 5 => ⟨S2x10x384x384, .f32⟩
  | 6 => ⟨S2x2x5x384x384, .f32⟩
  | 7 => ⟨S2x2x3x384x384, .f32⟩
  | 8 => ⟨S2x2x1x384x384, .f32⟩
  | 9 => ⟨S2x2x1x384x384, .f32⟩
  | 10 => ⟨S2x1x1x1x1, .f32⟩
  | 11 => ⟨S2x2x1x384x384, .f32⟩
  | 12 => ⟨S2x2x1x384x384, .f32⟩
  | 13 => ⟨S2x2x1x384x384, .f32⟩
  | 14 => ⟨S_, .f32⟩
  | 15 => ⟨S2x2x1x384x384, .f32⟩
  | 16 => ⟨S2x2x1x384x384, .f32⟩
  | 17 => ⟨S1x1x2x2x1x384x384, .f32⟩
  | 18 => ⟨S7x7x2x2x1x384x384, .f32⟩
  | 19 => ⟨S7x7x2x2x1x384x384, .f32⟩
  | 20 => ⟨S7x7x2x2x1x384x384, .i1⟩
  | 21 => ⟨S7x7x2x2x1x384x384, .f32⟩
  | 22 => ⟨S7x7x2x2x1x384x384, .f32⟩
  | 23 => ⟨S7x7x2x2x1x384x384, .f32⟩
  | 24 => ⟨S_, .f32⟩
  | 25 => ⟨S2x2x1x384x384, .f32⟩
  | 26 => ⟨S2x2x3x384x384, .f32⟩
  | 27 => ⟨S2x2x3x384x384, .f32⟩
  | 28 => ⟨S2x2x6x384x384, .f32⟩
  | 29 => ⟨S2x2x6x384x1, .f32⟩
  | 30 => ⟨S2x2x6x384x1, .f32⟩
  | 31 => ⟨S2x2x6x384x390, .f32⟩
  | 32 => ⟨S2x2x6x1x390, .f32⟩
  | 33 => ⟨S2x2x6x1x390, .f32⟩
  | 34 => ⟨S2x2x6x390x390, .f32⟩
  | 35 => ⟨S2x2x6x390x384, .f32⟩
  | 36 => ⟨S2x2x6x390x384, .f32⟩
  | 37 => ⟨S2x2x6x390x384, .f32⟩
  | 38 => ⟨S2x2x6x390x384, .f32⟩
  | 39 => ⟨S2x2x6x390x384, .f32⟩
  | 40 => ⟨S2x2x6x390x384, .f32⟩
  | 41 => ⟨S2x2x6x390x384, .f32⟩
  | 42 => ⟨S1x2x2x6x390x384, .f32⟩
  | 43 => ⟨S1x2x2x6x390x384, .f32⟩
  | 44 => ⟨S1x2x2x6x390x384, .f32⟩
  | 45 => ⟨S1x2x2x6x390x384, .f32⟩
  | 46 => ⟨S1x2x2x6x390x384, .f32⟩
  | 47 => ⟨S1x2x2x6x390x384, .f32⟩
  | 48 => ⟨S1x2x2x6x390x384, .f32⟩
  | 49 => ⟨S7x2x2x6x390x384, .f32⟩
  | 50 => ⟨S7x2x2x6x384x384, .f32⟩
  | 51 => ⟨S7x2x2x6x384x384, .f32⟩
  | 52 => ⟨S7x2x2x6x384x384, .f32⟩
  | 53 => ⟨S7x2x2x6x384x384, .f32⟩
  | 54 => ⟨S7x2x2x6x384x384, .f32⟩
  | 55 => ⟨S7x2x2x6x384x384, .f32⟩
  | 56 => ⟨S7x2x2x6x384x384, .f32⟩
  | 57 => ⟨S1x7x2x2x6x384x384, .f32⟩
  | 58 => ⟨S1x7x2x2x6x384x384, .f32⟩
  | 59 => ⟨S1x7x2x2x6x384x384, .f32⟩
  | 60 => ⟨S1x7x2x2x6x384x384, .f32⟩
  | 61 => ⟨S1x7x2x2x6x384x384, .f32⟩
  | 62 => ⟨S1x7x2x2x6x384x384, .f32⟩
  | 63 => ⟨S1x7x2x2x6x384x384, .f32⟩
  | 64 => ⟨S7x7x2x2x6x384x384, .f32⟩
  | 65 => ⟨S7x7x2x2x1x384x384, .f32⟩
  | 66 => ⟨S7x7x2x2x1x384x384, .f32⟩
  | 67 => ⟨S_, .f32⟩
  | 68 => ⟨S7x7x2x2x1x384x384, .f32⟩
  | 69 => ⟨S7x7x2x2x1x384x384, .f32⟩
  | 70 => ⟨S7x7x2x2x1x384x384, .f32⟩
  | 71 => ⟨S7x7x2x2x1x384x384, .i1⟩
  | 72 => ⟨S7x7x2x2x1x384x384, .f32⟩
  | 73 => ⟨S7x7x2x2x1x384x384, .f32⟩
  | 74 => ⟨S7x7x2x2x1x384x384, .f32⟩
  | 75 => ⟨S_, .f32⟩
  | 76 => ⟨S7x7x2x2x1x384x384, .f32⟩
  | 77 => ⟨S7x7x2x2x1x384x384, .f32⟩
  | 78 => ⟨S7x7x2x2x1x384x384, .f32⟩
  | 79 => ⟨S7x7x2x2x4x384x384, .f32⟩
  | 80 => ⟨S7x7x2x2x4x384x384, .f32⟩
  | 81 => ⟨S7x7x2x2x4x384x384, .f32⟩
  | 82 => ⟨S_, .f32⟩
  | 83 => ⟨S2x2x4x384x384, .f32⟩
  | 84 => ⟨S2x2x3x384x384, .f32⟩
  | 85 => ⟨S2x2x1x384x384, .f32⟩
  | 86 => ⟨S_, .f32⟩
  | 87 => ⟨S_, .f32⟩
  | 88 => ⟨S_, .f32⟩
  | 89 => ⟨S2x2x1x384x384, .f32⟩
  | 90 => ⟨S2x2x1x384x384, .f32⟩
  | 91 => ⟨S_, .f32⟩
  | 92 => ⟨S2x2x1x384x384, .f32⟩
  | 93 => ⟨S2x2x1x384x384, .f32⟩
  | 94 => ⟨S2x1x3x384x384, .f32⟩
  | 95 => ⟨S2x3x384x384, .f32⟩
  | 96 => ⟨S2x1x1x384x384, .f32⟩
  | 97 => ⟨S2x1x384x384, .f32⟩
  | 98 => ⟨S_, .f32⟩
  | 99 => ⟨S2x1x384x384, .f32⟩
  | 100 => ⟨S2x1x384x384, .f32⟩
  | 101 => ⟨S2x3x384x384, .f32⟩
  | 102 => ⟨S2x3x384x384, .f32⟩
  | 103 => ⟨S2x1x1x384x384, .f32⟩
  | 104 => ⟨S2x1x384x384, .f32⟩
  | 105 => ⟨S2x3x384x384, .f32⟩
  | 106 => ⟨S2x3x384x384, .f32⟩
  | 107 => ⟨S2x1x1x384x384, .f32⟩
  | 108 => ⟨S2x1x384x384, .f32⟩
  | 109 => ⟨S_, .f32⟩
  | 110 => ⟨S2x1x384x384, .f32⟩
  | 111 => ⟨S2x1x384x384, .f32⟩
  | 112 => ⟨S2x1x1x384x384, .f32⟩
  | 113 => ⟨S2x1x384x384, .f32⟩
  | 114 => ⟨S2x1x384x384, .f32⟩
  | 115 => ⟨S2x1x3x384x384, .f32⟩
  | 116 => ⟨S2x3x384x384, .f32⟩
  | 117 => ⟨S2x1x1x384x384, .f32⟩
  | 118 => ⟨S2x1x384x384, .f32⟩
  | 119 => ⟨S_, .f32⟩
  | 120 => ⟨S2x1x384x384, .f32⟩
  | 121 => ⟨S2x1x384x384, .f32⟩
  | 122 => ⟨S2x3x384x384, .f32⟩
  | 123 => ⟨S2x3x384x384, .f32⟩
  | 124 => ⟨S2x3x384x384, .f32⟩
  | 125 => ⟨S2x3x384x384, .f32⟩
  | 126 => ⟨S2x1x1x384x384, .f32⟩
  | 127 => ⟨S2x1x384x384, .f32⟩
  | _ => ⟨S2x10x384x384, .f32⟩

abbrev hbmTy0_1 (i : Nat) : BufTy := match i % 128 with
  | 0 => ⟨S_, .f32⟩
  | 1 => ⟨S2x1x384x384, .f32⟩
  | 2 => ⟨S2x1x384x384, .f32⟩
  | 3 => ⟨S2x1x384x384, .f32⟩
  | 4 => ⟨S2x3x384x384, .f32⟩
  | _ => ⟨S2x10x384x384, .f32⟩

abbrev hbmTy (i : Nat) : BufTy := match i / 128 with
  | 0 => hbmTy0_0 i
  | 1 => hbmTy0_1 i
  | _ => ⟨S2x10x384x384, .f32⟩

abbrev bufTy : (tb : Table) → Fin (tcTables nBuf tb) → BufTy
  | .hbm, ⟨i, _⟩ => hbmTy i
  | _, _ => ⟨S2x10x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_4 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_cst_7 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_10 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Proof.Stretches.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the image's first block. -/
abbrev isTop (i : grid0.Coords) : Prop :=
  Scalar.cmpi .ne (Scalar.extui (Scalar.cmpi .eq (BitVec.ofNat 32 (i 1).val) 0#32)) 0#32 = 1#1
/-- The point is at the image's last block. -/
abbrev isBot (i : grid0.Coords) : Prop :=
  Scalar.cmpi .ne (Scalar.extui (Scalar.cmpi .eq (BitVec.ofNat 32 (i 1).val) 2#32)) 0#32 = 1#1

/-- The rows a fetched block fills: per channel, the block's rows of the window scratch. -/
def fillProg (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (k0_h1 : k0_cond1 i = 1#1) :
    Prog (TpuEff nD τ sig (Elt F) Λ₀ .tc) PUnit := do
  let arg1 : BitVec 32 := BitVec.ofNat 32 (i 1).val
  let v43 : FVec F S128x512 .f32 ← k0_part1 i arg2 harg2 arg3 harg3 arg4 harg4 arg5 harg5 arg6 harg6 arg7 harg7 arg8 harg8 arg1 k0_h1
  let v79 : FVec F S128x512 .f32 ← k0_part2 i arg2 harg2 arg3 harg3 arg4 harg4 arg5 harg5 arg6 harg6 arg7 harg7 arg8 harg8 arg1 k0_h1 v43
  let ⟨v115, v117⟩ : Σ' (v115 : FVec F S128x512 .f32), BitVec 32 ← k0_part3 i arg2 harg2 arg3 harg3 arg4 harg4 arg5 harg5 arg6 harg6 arg7 harg7 arg8 harg8 arg1 k0_h1 v79
  let ⟨v151, v152, c8_i32_88⟩ : Σ' (v151 : FVec F S128x512 .f32) (v152 : BitVec 32), BitVec 32 ← k0_part4 i arg2 harg2 arg3 harg3 arg4 harg4 arg5 harg5 arg6 harg6 arg7 harg7 arg8 harg8 arg1 k0_h1 v115 v117
  let ⟨v187, c128_i32_109⟩ : Σ' (v187 : FVec F S128x512 .f32), BitVec 32 ← k0_part5 i arg2 harg2 arg3 harg3 arg4 harg4 arg5 harg5 arg6 harg6 arg7 harg7 arg8 harg8 arg1 k0_h1 v151 v152 c8_i32_88
  let v191 : Vec F S1x128x512 .f32 ← Prog.lift (.load arg6 (Rect.unit (s := S10x400x512) (k0_off11 i) S1x128x512.size (k0_off11_inb i k0_h1)).toLoadRect (View.loadsAt_vmem h_S1x128x512))
  Prog.lift (.store arg6 (Rect.unit (s := S10x400x512) (k0_off11 i) S1x128x512.size (k0_off11_inb i k0_h1)) (k0_pay1 v187) Finset.univ (View.stores_vmem_bits_univ h_S1x128x512 rfl) (.inl rfl))
  pure ⟨⟩

/-- The rows above the image, stored when its first block is at hand. -/
def topProg (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) :
    Prog (TpuEff nD τ sig (Elt F) Λ₀ .tc) PUnit := do
  k0_part6 i arg2 harg2 arg3 harg3 arg4 harg4 arg5 harg5 arg6 harg6 arg7 harg7 arg8 harg8
  k0_part7 i arg2 harg2 arg3 harg3 arg4 harg4 arg5 harg5 arg6 harg6 arg7 harg7 arg8 harg8
  let v117 : FVec F S1x384 .f32 ← k0_part8 i arg2 harg2 arg3 harg3 arg4 harg4 arg5 harg5 arg6 harg6 arg7 harg7 arg8 harg8
  let v151 : FVec F S1x384 .f32 ← k0_part9 i arg2 harg2 arg3 harg3 arg4 harg4 arg5 harg5 arg6 harg6 arg7 harg7 arg8 harg8 v117
  let v152 : Vec F S1x1x1x384 .f32 ← Prog.lift (.load arg4 (Rect.unit (s := S1x10x128x384) ![0, 8, 0, 0] S1x1x1x384.size inb_S1x10x128x384_S1x1x1x384_0_8_0_0).toLoadRect (View.loadsAt_vmem h_S1x1x1x384))
  let v164 : Vec F S1x3x512 .f32 ← Prog.lift (.load arg6 (Rect.unit (s := S10x400x512) ![8, 5, 0] S1x3x512.size inb_S10x400x512_S1x3x512_8_5_0).toLoadRect (View.loadsAt_vmem h_S1x3x512))
  Prog.lift (.store arg6 (Rect.unit (s := S10x400x512) ![8, 5, 0] S1x3x512.size inb_S10x400x512_S1x3x512_8_5_0) (k0_pay2 v151 v152) Finset.univ (View.stores_vmem_bits_univ h_S1x3x512 rfl) (.inl rfl))
  let v167 : Vec F S1x1x1x384 .f32 ← Prog.lift (.load arg3 (Rect.unit (s := S1x10x128x384) ![0, 9, 0, 0] S1x1x1x384.size inb_S1x10x128x384_S1x1x1x384_0_9_0_0).toLoadRect (View.loadsAt_vmem h_S1x1x1x384))
  let v169 : Vec F S1x1x1x384 .f32 ← Prog.lift (.load arg4 (Rect.unit (s := S1x10x128x384) ![0, 9, 0, 0] S1x1x1x384.size inb_S1x10x128x384_S1x1x1x384_0_9_0_0).toLoadRect (View.loadsAt_vmem h_S1x1x1x384))
  let v181 : Vec F S1x3x512 .f32 ← Prog.lift (.load arg6 (Rect.unit (s := S10x400x512) ![9, 5, 0] S1x3x512.size inb_S10x400x512_S1x3x512_9_5_0).toLoadRect (View.loadsAt_vmem h_S1x3x512))
  Prog.lift (.store arg6 (Rect.unit (s := S10x400x512) ![9, 5, 0] S1x3x512.size inb_S10x400x512_S1x3x512_9_5_0) (k0_pay3 v167 v169) Finset.univ (View.stores_vmem_bits_univ h_S1x3x512 rfl) (.inl rfl))
  pure ⟨⟩

/-- The rows below the image, stored when its last block is at hand. -/
def botProg (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) :
    Prog (TpuEff nD τ sig (Elt F) Λ₀ .tc) PUnit := do
  k0_part10 i arg2 harg2 arg3 harg3 arg4 harg4 arg5 harg5 arg6 harg6 arg7 harg7 arg8 harg8
  k0_part11 i arg2 harg2 arg3 harg3 arg4 harg4 arg5 harg5 arg6 harg6 arg7 harg7 arg8 harg8
  let v117 : FVec F S1x384 .f32 ← k0_part12 i arg2 harg2 arg3 harg3 arg4 harg4 arg5 harg5 arg6 harg6 arg7 harg7 arg8 harg8
  let v151 : FVec F S1x384 .f32 ← k0_part13 i arg2 harg2 arg3 harg3 arg4 harg4 arg5 harg5 arg6 harg6 arg7 harg7 arg8 harg8 v117
  let v152 : Vec F S1x1x1x384 .f32 ← Prog.lift (.load arg4 (Rect.unit (s := S1x10x128x384) ![0, 8, 127, 0] S1x1x1x384.size inb_S1x10x128x384_S1x1x1x384_0_8_127_0).toLoadRect (View.loadsAt_vmem h_S1x1x1x384))
  let v164 : Vec F S1x3x512 .f32 ← Prog.lift (.load arg6 (Rect.unit (s := S10x400x512) ![8, 392, 0] S1x3x512.size inb_S10x400x512_S1x3x512_8_392_0).toLoadRect (View.loadsAt_vmem h_S1x3x512))
  Prog.lift (.store arg6 (Rect.unit (s := S10x400x512) ![8, 392, 0] S1x3x512.size inb_S10x400x512_S1x3x512_8_392_0) (k0_pay4 v151 v152) Finset.univ (View.stores_vmem_bits_univ h_S1x3x512 rfl) (.inl rfl))
  let v167 : Vec F S1x1x1x384 .f32 ← Prog.lift (.load arg3 (Rect.unit (s := S1x10x128x384) ![0, 9, 127, 0] S1x1x1x384.size inb_S1x10x128x384_S1x1x1x384_0_9_127_0).toLoadRect (View.loadsAt_vmem h_S1x1x1x384))
  let v169 : Vec F S1x1x1x384 .f32 ← Prog.lift (.load arg4 (Rect.unit (s := S1x10x128x384) ![0, 9, 127, 0] S1x1x1x384.size inb_S1x10x128x384_S1x1x1x384_0_9_127_0).toLoadRect (View.loadsAt_vmem h_S1x1x1x384))
  let v181 : Vec F S1x3x512 .f32 ← Prog.lift (.load arg6 (Rect.unit (s := S10x400x512) ![9, 392, 0] S1x3x512.size inb_S10x400x512_S1x3x512_9_392_0).toLoadRect (View.loadsAt_vmem h_S1x3x512))
  Prog.lift (.store arg6 (Rect.unit (s := S10x400x512) ![9, 392, 0] S1x3x512.size inb_S10x400x512_S1x3x512_9_392_0) (k0_pay5 v167 v169) Finset.univ (View.stores_vmem_bits_univ h_S1x3x512 rfl) (.inl rfl))
  pure ⟨⟩

/-- One block of the result from the window scratch; `v1` is the image's lens strength. -/
def renderProg (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (v1 : Elt F .f32) (k0_h4 : k0_cond4 i = 1#1) :
    Prog (TpuEff nD τ sig (Elt F) Λ₀ .tc) PUnit := do
  let arg1 : BitVec 32 := BitVec.ofNat 32 (i 1).val
  let ⟨v15, v18, v21, v24, v27, v35, v48, v50, cst_18, cst_19⟩ : Σ' (v15 : BitVec 32) (v18 : FVec F S144x512 .f32) (v21 : FVec F S144x512 .f32) (v24 : FVec F S144x512 .f32) (v27 : FVec F S144x512 .f32) (v35 : FVec F S144x512 .f32) (v48 : FVec F S144x512 .f32) (v50 : IVec S144x512 1) (cst_18 : F .f32), F .f32 ← k0_part14 i arg2 harg2 arg3 harg3 arg4 harg4 arg5 harg5 arg6 harg6 arg7 harg7 arg8 harg8 arg1 v1 k0_h4
  let ⟨v77, v88⟩ : Σ' (v77 : FVec F S144x512 .f32), FVec F S1x144x512 .f32 ← k0_part15 i arg2 harg2 arg3 harg3 arg4 harg4 arg5 harg5 arg6 harg6 arg7 harg7 arg8 harg8 v18 v21 v27 v35 v48 v50 cst_18 cst_19
  let v108 : Vec F S5x128x512 .f32 ← k0_part16 i arg2 harg2 arg3 harg3 arg4 harg4 arg5 harg5 arg6 harg6 arg7 harg7 arg8 harg8 v24 v77 v88
  let ⟨v125, v132, v133⟩ : Σ' (v125 : FVec F S4x128x512 .f32) (v132 : IVec S4x128x512 1), FVec F S4x128x512 .f32 ← k0_part17 i arg2 harg2 arg3 harg3 arg4 harg4 arg5 harg5 arg6 harg6 arg7 harg7 arg8 harg8 v108
  let ⟨v161, v163⟩ : Σ' (v161 : FVec F S4x128x512 .f32), FVec F S4x128x512 .f32 ← k0_part18 i arg2 harg2 arg3 harg3 arg4 harg4 arg5 harg5 arg6 harg6 arg7 harg7 arg8 harg8 v125 v132 v133
  let v197 : FVec F S4x128x512 .f32 ← k0_part19 i arg2 harg2 arg3 harg3 arg4 harg4 arg5 harg5 arg6 harg6 arg7 harg7 arg8 harg8 v161 v163
  let ⟨v220, v222, cst_181, v229⟩ : Σ' (v220 : FVec F S4x128x512 .f32) (v222 : FVec F S4x128x512 .f32) (cst_181 : F .f32), IVec S4x128x512 1 ← k0_part20 i arg2 harg2 arg3 harg3 arg4 harg4 arg5 harg5 arg6 harg6 arg7 harg7 arg8 harg8
  let ⟨v256, v258, v260, cst_210⟩ : Σ' (v256 : FVec F S4x128x512 .f32) (v258 : FVec F S4x128x512 .f32) (v260 : FVec F S128x512 .f32), F .f32 ← k0_part21 i arg2 harg2 arg3 harg3 arg4 harg4 arg5 harg5 arg6 harg6 arg7 harg7 arg8 harg8 v220 v222 cst_181 v229
  let ⟨v291, v293⟩ : Σ' (v291 : FVec F S4x128x512 .f32), FVec F S4x128x512 .f32 ← k0_part22 i arg2 harg2 arg3 harg3 arg4 harg4 arg5 harg5 arg6 harg6 arg7 harg7 arg8 harg8 v258 v260 cst_210
  let ⟨v315, v326, v329⟩ : Σ' (v315 : FVec F S4x128x512 .f32) (v326 : FVec F S4x128x512 .f32), FVec F S4x128x384 .f32 ← k0_part23 i arg2 harg2 arg3 harg3 arg4 harg4 arg5 harg5 arg6 harg6 arg7 harg7 arg8 harg8 v291 v293
  let ⟨v352, v354, v357, v360, v363, v366, v374⟩ : Σ' (v352 : FVec F S3x128x384 .f32) (v354 : FVec F S128x384 .f32) (v357 : FVec F S144x512 .f32) (v360 : FVec F S144x512 .f32) (v363 : FVec F S144x512 .f32) (v366 : FVec F S144x512 .f32), FVec F S144x512 .f32 ← k0_part24 i arg2 harg2 arg3 harg3 arg4 harg4 arg5 harg5 arg6 harg6 arg7 harg7 arg8 harg8 v1 k0_h4 v15 v197 v256 v315 v326 v329
  let ⟨v413, cst_297⟩ : Σ' (v413 : FVec F S144x512 .f32), F .f32 ← k0_part25 i arg2 harg2 arg3 harg3 arg4 harg4 arg5 harg5 arg6 harg6 arg7 harg7 arg8 harg8 v374
  let v439 : Vec F S5x128x512 .f32 ← k0_part26 i arg2 harg2 arg3 harg3 arg4 harg4 arg5 harg5 arg6 harg6 arg7 harg7 arg8 harg8 v357 v360 v363 v366 v374 v413 cst_297
  let v459 : Vec F S5x128x512 .f32 ← k0_part27 i arg2 harg2 arg3 harg3 arg4 harg4 arg5 harg5 arg6 harg6 arg7 harg7 arg8 harg8 v439
  let ⟨v485, v487, v489⟩ : Σ' (v485 : FVec F S4x128x512 .f32) (v487 : FVec F S4x128x512 .f32), FVec F S128x512 .f32 ← k0_part28 i arg2 harg2 arg3 harg3 arg4 harg4 arg5 harg5 arg6 harg6 arg7 harg7 arg8 harg8 v459
  let ⟨v512, v523⟩ : Σ' (v512 : FVec F S4x128x512 .f32), FVec F S4x128x512 .f32 ← k0_part29 i arg2 harg2 arg3 harg3 arg4 harg4 arg5 harg5 arg6 harg6 arg7 harg7 arg8 harg8 v485 v487 v489
  let ⟨v536, v547, v549, v554⟩ : Σ' (v536 : FVec F S4x128x512 .f32) (v547 : FVec F S4x128x512 .f32) (v549 : FVec F S4x128x512 .f32), IVec S1x128x512 1 ← k0_part30 i arg2 harg2 arg3 harg3 arg4 harg4 arg5 harg5 arg6 harg6 arg7 harg7 arg8 harg8 v512 v523
  let ⟨v583, v585⟩ : Σ' (v583 : FVec F S4x128x512 .f32), FVec F S4x128x512 .f32 ← k0_part31 i arg2 harg2 arg3 harg3 arg4 harg4 arg5 harg5 arg6 harg6 arg7 harg7 arg8 harg8 v547 v549 v554
  let ⟨v595, v618, v619⟩ : Σ' (v595 : FVec F S4x128x512 .f32) (v618 : FVec F S4x128x512 .f32), Vec F S1x4x128x512 .f32 ← k0_part32 i arg2 harg2 arg3 harg3 arg4 harg4 arg5 harg5 arg6 harg6 arg7 harg7 arg8 harg8 v583 v585
  let ⟨v642, v653⟩ : Σ' (v642 : FVec F S4x128x512 .f32), FVec F S4x128x512 .f32 ← k0_part33 i arg2 harg2 arg3 harg3 arg4 harg4 arg5 harg5 arg6 harg6 arg7 harg7 arg8 harg8 v618 v619
  let ⟨v695, v696⟩ : Σ' (v695 : FVec F S3x128x384 .f32), Vec F S1x3x128x384 .f32 ← k0_part34 i arg2 harg2 arg3 harg3 arg4 harg4 arg5 harg5 arg6 harg6 arg7 harg7 arg8 harg8 v352 v354 v536 v595 v642 v653
  Prog.lift (.store arg5 (Rect.unit (s := S1x3x128x384) ![0, 0, 0, 0] S1x3x128x384.size inb_S1x3x128x384_S1x3x128x384_0_0_0_0) (k0_pay6 v695) Finset.univ (View.stores_vmem_bits_univ h_S1x3x128x384 rfl) (.inl rfl))
  pure ⟨⟩

/-- The body, its four guarded stretches named. -/
theorem body_eq (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) :
    cc0__render_kernel (F := F) i arg2 harg2 arg3 harg3 arg4 harg4 arg5 harg5 arg6 harg6 arg7 harg7 arg8 harg8 = (do
      let v1 : Elt F .f32 ← smemLoad arg2 (Rect.unit (s := S2) (k0_off1 i) S1.size (k0_off1_inb i)) numel1_S1 rfl
      (if h : k0_cond1 i = 1#1 then fillProg i arg2 harg2 arg3 harg3 arg4 harg4 arg5 harg5 arg6 harg6 arg7 harg7 arg8 harg8 h else pure ⟨⟩)
      (if isTop i then topProg i arg2 harg2 arg3 harg3 arg4 harg4 arg5 harg5 arg6 harg6 arg7 harg7 arg8 harg8 else pure ⟨⟩)
      (if isBot i then botProg i arg2 harg2 arg3 harg3 arg4 harg4 arg5 harg5 arg6 harg6 arg7 harg7 arg8 harg8 else pure ⟨⟩)
      (if h : k0_cond4 i = 1#1 then renderProg i arg2 harg2 arg3 harg3 arg4 harg4 arg5 harg5 arg6 harg6 arg7 harg7 arg8 harg8 v1 h else pure ⟨⟩)) := by
  rw [cc0__render_kernel_eq_skeleton]
  unfold cc0__render_kernel_skel
  refine bind_congr fun v1 => ?_
  by_cases h1 : k0_cond1 i = 1#1 <;> by_cases h2 : isTop i <;> by_cases h3 : isBot i <;>
    unfold isTop at h2 ⊢ <;> unfold isBot at h3 ⊢ <;>
    by_cases h4 : k0_cond4 i = 1#1 <;>
    simp only [h1, h2, h3, h4, dif_pos, dif_neg, if_pos, if_neg, not_false_eq_true, fillProg, topProg, botProg, renderProg,
      bind_assoc, pure_bind, bind_pure, dite_true, dite_false, ite_true, ite_false]

end Cert.KernelIdeal.Disk

end
-- ==== Proof.Fill.lean ====
module

public import proofs.«01_k».proof.Proof.Stretches
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What filling a block leaves in the window scratch, as pieces written over its contents. -/
def fillRun (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (h1 : k0_cond1 i = 1#1)
    (x1 x2 : Vec F S1x10x128x384 .f32) (xs0 : Vec F S10x400x512 .f32) :
    { L : List (View.Piece (Elt F) S10x400x512 .f32) //
      ∀ (E : Set ℕ) (K : PUnit → sProp 𝕄),
        iprop(owns (c : Thread nD τ) arg3 fullShare x1 ∗ owns (c : Thread nD τ) arg4 fullShare x2 ∗ owns (c : Thread nD τ) arg6 fullShare xs0
            ∗ (iprop(owns (c : Thread nD τ) arg3 fullShare x1 ∗ owns (c : Thread nD τ) arg4 fullShare x2
                ∗ (arg6.view.loc (c : Thread nD τ) ↦[arg6.view.set]{fullShare} arg6.view.writes (Elt F) (harg6.unread xs0) L)) -∗ K ⟨⟩))
          ⊢ wp frame (wpE (defs₀ (F := F)) Variants.none c none) E (fillProg i arg2 harg2 arg3 harg3 arg4 harg4 arg5 harg5 arg6 harg6 arg7 harg7 arg8 harg8 h1) K } := by
  refine ⟨?_, fun E K => ?run⟩
  case run =>
    unfold fillProg
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%fs0, %hfs0, HS0⟩, Hk⟩
    obtain rfl := harg3.eq_unread hf1; obtain rfl := harg4.eq_unread hf2; obtain rfl := harg6.eq_unread hfs0
    sl_exec (disch := first | sl_exact h1)
    sl_step
    iapply Hk
    isplitl [H1]
    · iexists _; isplitr; · ipureintro; exact harg3.read_unread _
      iexact H1
    isplitl [H2]
    · iexists _; isplitr; · ipureintro; exact harg4.read_unread _
      iexact H2
    iexact HS0

/-- What the first block adds above the image, as pieces written over the window scratch. -/
def topRun (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole)
    (x1 x2 : Vec F S1x10x128x384 .f32) (xs0 : Vec F S10x400x512 .f32) :
    { L : List (View.Piece (Elt F) S10x400x512 .f32) //
      ∀ (E : Set ℕ) (K : PUnit → sProp 𝕄),
        iprop(owns (c : Thread nD τ) arg3 fullShare x1 ∗ owns (c : Thread nD τ) arg4 fullShare x2 ∗ owns (c : Thread nD τ) arg6 fullShare xs0
            ∗ (iprop(owns (c : Thread nD τ) arg3 fullShare x1 ∗ owns (c : Thread nD τ) arg4 fullShare x2
                ∗ (arg6.view.loc (c : Thread nD τ) ↦[arg6.view.set]{fullShare} arg6.view.writes (Elt F) (harg6.unread xs0) L)) -∗ K ⟨⟩))
          ⊢ wp frame (wpE (defs₀ (F := F)) Variants.none c none) E (topProg i arg2 harg2 arg3 harg3 arg4 harg4 arg5 harg5 arg6 harg6 arg7 harg7 arg8 harg8) K } := by
  refine ⟨?_, fun E K => ?run⟩
  case run =>
    unfold topProg
    simp only [k0_part6_eq_skeleton, k0_part7_eq_skeleton, k0_part8_eq_skeleton, k0_part9_eq_skeleton]
    unfold owns
    iintro ⟨⟨%f1, %hf1, H1⟩, ⟨%f2, %hf2, H2⟩, ⟨%fs0, %hfs0, HS0⟩, Hk⟩
    obtain rfl := harg3.eq_unread hf1; obtain rfl := harg4.eq_unread hf2; obtain rfl := harg6.eq_unread hfs0
    sl_exec
    sl_step
    iapply Hk
    isplitl [H1]
    · iexists _; isplitr; · ipureintro; exact harg3.read_unread _
      iexact H1
    isplitl [H2]
    · iexists _; isplitr; · ipureintro; exact harg4.read_unread _
      iexact H2
    iexact HS0

/-- What the last block adds below the image, as pieces written over the window scratch. -/
def botRun (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole)
    (x1 x2 : Vec F S1x10x128x384 .f32) (xs0 : Vec F S10x400x512 .f32) :
    { L : List (View.Piece (Elt F) S10x400x512 .f32) //
      ∀ (E : Set ℕ) (K : PUnit → sProp 𝕄),
        iprop(owns (c : Thread nD τ) arg3 fullShare x1 ∗ owns (c : Thread nD τ) arg4 fullShare x2 ∗ owns (c : Thread nD τ) arg6 fullShare xs0
            ∗ (iprop(owns (c : Thread nD τ) arg3 fullShare x1 ∗ owns (c : Thread nD τ) arg4 fullShare x2
                ∗ (arg6.view.loc (c : Thread nD τ) ↦[arg6.view.set]{fullShare} arg6.view.writes (Elt F) (harg6.unread xs0) L)) -∗ K ⟨⟩))
          ⊢ wp frame (wpE (defs₀ (F := F)) Variants.none c none) E (botProg i arg2 harg2 arg3 harg3 arg4 harg4 arg5 harg5 arg6 harg6 arg7 harg7 arg8 harg8) K } := by
  refine ⟨?_, fun E K => ?run⟩
  case run =>
    unfold botProg
    simp only [k0_part10_eq_skeleton, k0_part11_eq_skeleton, k0_part12_eq_skeleton, k0_part13_eq_skeleton]
    unfold owns
    iintro ⟨⟨%f1, %hf1, H1⟩, ⟨%f2, %hf2, H2⟩, ⟨%fs0, %hfs0, HS0⟩, Hk⟩
    obtain rfl := harg3.eq_unread hf1; obtain rfl := harg4.eq_unread hf2; obtain rfl := harg6.eq_unread hfs0
    sl_exec
    sl_step
    iapply Hk
    isplitl [H1]
    · iexists _; isplitr; · ipureintro; exact harg3.read_unread _
      iexact H1
    isplitl [H2]
    · iexists _; isplitr; · ipureintro; exact harg4.read_unread _
      iexact H2
    iexact HS0

end Cert.KernelIdeal.Disk

end
-- ==== Proof.Padded.lean ====
module

public import proofs.«01_k».proof.Proof.Fill
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The image row a padded row shows: eight rows above the image, then its edge row repeated. -/
def clampRow (n : ℕ) : Fin 384 := ⟨min (n - 8) 383, by omega⟩

/-- The image column a padded column shows: three columns left of the image, then its edge column repeated. -/
def clampCol (n : ℕ) : Fin 384 := ⟨min (n - 3) 383, by omega⟩

/-- The padded difference of batch `b`: the image less the focal plane, its edges repeated on every side. -/
def padded (X Y : Vec F S2x10x384x384 .f32) (b : Fin 2) : Vec F S10x400x512 .f32 := fun j =>
  FloatOps.subf (X (ix4 b (j 0) (clampRow (j 1).val) (clampCol (j 2).val))) (Y (ix4 b (j 0) (clampRow (j 1).val) (clampCol (j 2).val)))

/-- A stored piece agrees with a whole image. -/
def Agrees (G : Vec F S10x400x512 .f32) (p : View.Piece (Elt F) S10x400x512 .f32) : Prop :=
  ∀ x : p.1.shape.Idx, p.2 x = G (p.1.emb x)

/-- A staged block holds rows `128 s …` of batch `b`. -/
def Holds (X : Vec F S2x10x384x384 .f32) (b : Fin 2) (s : ℕ) (x : Vec F S1x10x128x384 .f32) : Prop :=
  ∀ (ch : Fin 10) (r : Fin 128) (w : Fin 384) (R : Fin 384), R.val = 128 * s + r.val → x (ix4 0 ch r w) = X (ix4 b ch R w)

/-- A column left of the image shows its first column. -/
theorem clampCol_left {n : ℕ} (h : n < 3) : clampCol n = 0 := Fin.ext (by simp only [clampCol, Fin.val_zero]; omega)

/-- A column of the image shows itself. -/
theorem clampCol_mid {n : ℕ} (h : n - 3 < 384) : clampCol n = ⟨n - 3, h⟩ := Fin.ext (by simp only [clampCol]; omega)

/-- A column right of the image shows its last column. -/
theorem clampCol_right {n : ℕ} (h : ¬ n - 3 < 384) : clampCol n = 383 := Fin.ext (by
  rw [clampCol, show ((383 : Fin 384) : ℕ) = 383 from rfl]; dsimp only; omega)

/-- One channel of a block, widened by three columns on the left and 125 on the right, at an element. -/
theorem fill_apply (u v : Vec F S1x1x128x384 .f32) (r : Fin 128) (w : Fin 512) :
    k0_pay7 u v (ix3 0 r w) = FloatOps.subf (u (ix4 0 0 r (clampCol w.val))) (v (ix4 0 0 r (clampCol w.val))) := by
  pointwise [k0_pay7]
  split_ifs <;> first
    | rw [clampCol_left (by assumption)]
    | rw [clampCol_mid (by assumption)]
    | rw [clampCol_right (by assumption)]

/-- One row, widened likewise and repeated three times, at an element. -/
theorem edge_apply (u v : Vec F S1x1x1x384 .f32) (r : Fin 3) (w : Fin 512) :
    k0_pay21 u v (ix3 0 r w) = FloatOps.subf (u (ix4 0 0 0 (clampCol w.val))) (v (ix4 0 0 0 (clampCol w.val))) := by
  pointwise [k0_pay21]
  split_ifs <;> first
    | rw [clampCol_left (by assumption)]
    | rw [clampCol_mid (by assumption)]
    | rw [clampCol_right (by assumption)]

/-- A channel of the block stored at rows `128 s + 8 …` agrees with the padded image. -/
theorem fill_agrees {X Y : Vec F S2x10x384x384 .f32} {b : Fin 2} {s : ℕ} (hs : s < 3) {x y : Vec F S1x10x128x384 .f32}
    (hx : Holds X b s x) (hy : Holds Y b s y) (ch : Fin 10) {off : Fin 3 → ℕ} (hoff : off = ![ch.val, 128 * s + 8, 0])
    (inb : ∀ a, off a + S1x128x512.size a ≤ S10x400x512.size a) (u v : Vec F S1x1x128x384 .f32)
    (hu : ∀ r w, u (ix4 0 0 r w) = x (ix4 0 ch r w)) (hv : ∀ r w, v (ix4 0 0 r w) = y (ix4 0 ch r w)) :
    Agrees (padded X Y b) ⟨Rect.unit (s := S10x400x512) off S1x128x512.size inb, k0_pay7 u v⟩ := by
  subst hoff
  intro j
  idx_vars j
  obtain rfl : j0 = 0 := Subsingleton.elim _ _
  have hr : 128 * s + 8 + j1.val < 400 := by omega
  have e : (Rect.unit (s := S10x400x512) ![ch.val, 128 * s + 8, 0] S1x128x512.size inb).emb (ix3 0 j1 j2) = ix3 ch ⟨128 * s + 8 + j1.val, hr⟩ j2 :=
    Rect.emb_eq_of_coords _ _ _ (by intro a; fin_cases a <;> simp)
  have hR : (clampRow (128 * s + 8 + j1.val)).val = 128 * s + j1.val := by simp only [clampRow]; omega
  rw [fill_apply, hu, hv, hx ch j1 _ _ hR, hy ch j1 _ _ hR]
  erw [e]
  rfl

/-- A repeated edge row of the image agrees with the padded image, at three rows that show image row `R`. -/
theorem edge_agrees {X Y : Vec F S2x10x384x384 .f32} {b : Fin 2} {s : ℕ} {x y : Vec F S1x10x128x384 .f32}
    (hx : Holds X b s x) (hy : Holds Y b s y) (ch : Fin 10) (r : Fin 128) (R : Fin 384) (hR : R.val = 128 * s + r.val) (o : ℕ)
    (ho : ∀ k < 3, clampRow (o + k) = R) {off : Fin 3 → ℕ} (hoff : off = ![ch.val, o, 0])
    (inb : ∀ a, off a + S1x3x512.size a ≤ S10x400x512.size a) (u v : Vec F S1x1x1x384 .f32)
    (hu : ∀ w, u (ix4 0 0 0 w) = x (ix4 0 ch r w)) (hv : ∀ w, v (ix4 0 0 0 w) = y (ix4 0 ch r w)) :
    Agrees (padded X Y b) ⟨Rect.unit (s := S10x400x512) off S1x3x512.size inb, k0_pay21 u v⟩ := by
  subst hoff
  intro j
  idx_vars j
  obtain rfl : j0 = 0 := Subsingleton.elim _ _
  have hr : o + j1.val < 400 := by have h := inb 1; simp at h; omega
  have e : (Rect.unit (s := S10x400x512) ![ch.val, o, 0] S1x3x512.size inb).emb (ix3 0 j1 j2) = ix3 ch ⟨o + j1.val, hr⟩ j2 :=
    Rect.emb_eq_of_coords _ _ _ (by intro a; fin_cases a <;> simp)
  rw [edge_apply, hu, hv, hx ch r _ R hR, hy ch r _ R hR]
  erw [e]
  rw [← ho j1.val j1.isLt]
  rfl

/-- The image's rows from `lo` to `hi` are in the buffer. -/
def Rows (G : Vec F S10x400x512 .f32) (lo hi : ℕ) (d : Vec F S10x400x512 .f32) : Prop :=
  ∀ j, lo ≤ (j 1).val → (j 1).val < hi → d j = G j

/-- After pieces that agree with the image, an element that was right, or that a piece covers, is right. -/
theorem writes_agree {G : Vec F S10x400x512 .f32} {κ : Kind} {sp : Space} (v : View sig κ sp S10x400x512 .f32) (f : v.ty.Contents (Elt F))
    (L : List (View.Piece (Elt F) S10x400x512 .f32)) (hL : ∀ p ∈ L, Agrees G p) (y : S10x400x512.Idx)
    (h : v.read (Elt F) f y = G y ∨ ∃ p ∈ L, y ∈ p.1.set) : v.read (Elt F) (v.writes (Elt F) f L) y = G y := by
  by_cases hc : ∃ p ∈ L, y ∈ p.1.set
  · exact View.read_writes_apply_of_pieces v f G L hL y hc
  · rw [View.read_writes_apply_of_forall_not_mem (v := v) (f := f) (y := y) (L := L) (fun p hp hy => hc ⟨p, hp, hy⟩)]
    exact h.resolve_right hc

/-- An element of a channel's rows is in the piece that stores them. -/
theorem mem_rows (y : S10x400x512.Idx) (n o : ℕ) {off : Fin 3 → ℕ} (hoff : off = ![(y 0).val, o, 0])
    (inb : ∀ a, off a + (![1, n, 512] : Fin 3 → ℕ) a ≤ S10x400x512.size a) (h1 : o ≤ (y 1).val) (h2 : (y 1).val < o + n) :
    y ∈ (Rect.unit (s := S10x400x512) off ![1, n, 512] inb).set := by
  subst hoff
  rw [Rect.mem_set_unit]
  have h3 : (y 2).val < 512 := (y 2).isLt
  intro a
  fin_cases a
  · exact ⟨le_rfl, Nat.lt_succ_self _⟩
  · exact ⟨h1, h2⟩
  · exact ⟨Nat.zero_le _, by simpa using h3⟩

section runs

variable (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (x1 x2 : Vec F S1x10x128x384 .f32) (xs0 : Vec F S10x400x512 .f32)
variable {X Y : Vec F S2x10x384x384 .f32} {b : Fin 2}

/-- After a block is filled, its rows are the padded image's, and what was right stays right. -/
theorem fillRun_rows (h1 : k0_cond1 i = 1#1) (hx : Holds X b (i 1).val x1) (hy : Holds Y b (i 1).val x2) (hs : (i 1).val < 3) (y : S10x400x512.Idx)
    (h : xs0 y = padded X Y b y ∨ 128 * (i 1).val + 8 ≤ (y 1).val ∧ (y 1).val < 128 * (i 1).val + 8 + 128) :
    arg6.view.read (Elt F) (arg6.view.writes (Elt F) (harg6.unread xs0) (fillRun c i arg2 harg2 arg3 harg3 arg4 harg4 arg5 harg5 arg6 harg6 arg7 harg7 arg8 harg8 h1 x1 x2 xs0).1) y = padded X Y b y := by
  have hL : ∀ (ch : Fin 10) (off : Fin 4 → ℕ) (hoff : off = ![0, ch.val, 0, 0]) (inb : ∀ a, off a + S1x1x128x384.size a ≤ S1x10x128x384.size a)
      (off' : Fin 3 → ℕ) (hoff' : off' = ![ch.val, 128 * (i 1).val + 8, 0]) (inb' : ∀ a, off' a + S1x128x512.size a ≤ S10x400x512.size a),
      Agrees (padded X Y b) ⟨Rect.unit (s := S10x400x512) off' S1x128x512.size inb',
        k0_pay7 (arg3.view.readAt (Elt F) (Rect.unit (s := S1x10x128x384) off S1x1x128x384.size inb).toLoadRect (harg3.unread x1))
          (arg4.view.readAt (Elt F) (Rect.unit (s := S1x10x128x384) off S1x1x128x384.size inb).toLoadRect (harg4.unread x2))⟩ := by
    intro ch off hoff inb off' hoff' inb'
    subst hoff
    refine fill_agrees hs hx hy ch hoff' inb' _ _ (fun r w => ?_) (fun r w => ?_)
    · rw [harg3.readAt_unread]; congr 1; funext a; fin_cases a <;> apply Fin.ext <;> simp [LoadRect.idx]
    · rw [harg4.readAt_unread]; congr 1; funext a; fin_cases a <;> apply Fin.ext <;> simp [LoadRect.idx]
  refine writes_agree _ _ _ ?_ y ?_
  · unfold fillRun
    dsimp only
    simp only [List.forall_mem_cons, List.not_mem_nil, false_imp_iff, implies_true, and_true]
    exact ⟨hL 9 _ rfl _ _ (k0_off11_eq i) _, hL 8 _ rfl _ _ (k0_off10_eq i) _, hL 7 _ rfl _ _ (k0_off9_eq i) _, hL 6 _ rfl _ _ (k0_off8_eq i) _, hL 5 _ rfl _ _ (k0_off7_eq i) _, hL 4 _ rfl _ _ (k0_off6_eq i) _, hL 3 _ rfl _ _ (k0_off5_eq i) _, hL 2 _ rfl _ _ (k0_off4_eq i) _, hL 1 _ rfl _ _ (k0_off3_eq i) _, hL 0 _ rfl _ _ (k0_off2_eq i) _⟩
  · rw [harg6.read_unread]
    refine h.imp id fun h => ?_
    have hm := fun off hoff inb => mem_rows y 128 (128 * (i 1).val + 8) (off := off) hoff inb h.1 h.2
    unfold fillRun
    dsimp only
    simp only [List.exists_mem_cons_iff]
    have hlt : (y 0).val < 10 := (y 0).isLt
    generalize hk : (y 0).val = k at hlt hm
    interval_cases k
    · exact .inr <| .inr <| .inr <| .inr <| .inr <| .inr <| .inr <| .inr <| .inr <| .inl (hm _ (k0_off2_eq i) _)
    · exact .inr <| .inr <| .inr <| .inr <| .inr <| .inr <| .inr <| .inr <| .inl (hm _ (k0_off3_eq i) _)
    · exact .inr <| .inr <| .inr <| .inr <| .inr <| .inr <| .inr <| .inl (hm _ (k0_off4_eq i) _)
    · exact .inr <| .inr <| .inr <| .inr <| .inr <| .inr <| .inl (hm _ (k0_off5_eq i) _)
    · exact .inr <| .inr <| .inr <| .inr <| .inr <| .inl (hm _ (k0_off6_eq i) _)
    · exact .inr <| .inr <| .inr <| .inr <| .inl (hm _ (k0_off7_eq i) _)
    · exact .inr <| .inr <| .inr <| .inl (hm _ (k0_off8_eq i) _)
    · exact .inr <| .inr <| .inl (hm _ (k0_off9_eq i) _)
    · exact .inr <| .inl (hm _ (k0_off10_eq i) _)
    · exact .inl (hm _ (k0_off11_eq i) _)

/-- After the rows above the image are stored, they are the padded image's, and what was right stays right. -/
theorem topRun_rows (hx : Holds X b 0 x1) (hy : Holds Y b 0 x2) (y : S10x400x512.Idx)
    (h : xs0 y = padded X Y b y ∨ 5 ≤ (y 1).val ∧ (y 1).val < 5 + 3) :
    arg6.view.read (Elt F) (arg6.view.writes (Elt F) (harg6.unread xs0) (topRun c i arg2 harg2 arg3 harg3 arg4 harg4 arg5 harg5 arg6 harg6 arg7 harg7 arg8 harg8 x1 x2 xs0).1) y = padded X Y b y := by
  have hL : ∀ (ch : Fin 10) (off : Fin 4 → ℕ) (hoff : off = ![0, ch.val, 0, 0]) (inb : ∀ a, off a + S1x1x1x384.size a ≤ S1x10x128x384.size a)
      (off' : Fin 3 → ℕ) (hoff' : off' = ![ch.val, 5, 0]) (inb' : ∀ a, off' a + S1x3x512.size a ≤ S10x400x512.size a),
      Agrees (padded X Y b) ⟨Rect.unit (s := S10x400x512) off' S1x3x512.size inb',
        k0_pay21 (arg3.view.readAt (Elt F) (Rect.unit (s := S1x10x128x384) off S1x1x1x384.size inb).toLoadRect (harg3.unread x1))
          (arg4.view.readAt (Elt F) (Rect.unit (s := S1x10x128x384) off S1x1x1x384.size inb).toLoadRect (harg4.unread x2))⟩ := by
    intro ch off hoff inb off' hoff' inb'
    subst hoff
    refine edge_agrees hx hy ch 0 0 rfl 5 (by decide) hoff' inb' _ _ (fun w => ?_) (fun w => ?_)
    · rw [harg3.readAt_unread]; congr 1; funext a; fin_cases a <;> apply Fin.ext <;> simp [LoadRect.idx]
    · rw [harg4.readAt_unread]; congr 1; funext a; fin_cases a <;> apply Fin.ext <;> simp [LoadRect.idx]
  refine writes_agree _ _ _ ?_ y ?_
  · unfold topRun
    dsimp only
    simp only [List.forall_mem_cons, List.not_mem_nil, false_imp_iff, implies_true, and_true]
    exact ⟨hL 9 _ rfl _ _ rfl _, hL 8 _ rfl _ _ rfl _, hL 7 _ rfl _ _ rfl _, hL 6 _ rfl _ _ rfl _, hL 5 _ rfl _ _ rfl _, hL 4 _ rfl _ _ rfl _, hL 3 _ rfl _ _ rfl _, hL 2 _ rfl _ _ rfl _, hL 1 _ rfl _ _ rfl _, hL 0 _ rfl _ _ rfl _⟩
  · rw [harg6.read_unread]
    refine h.imp id fun h => ?_
    have hm := fun off hoff inb => mem_rows y 3 5 (off := off) hoff inb h.1 h.2
    unfold topRun
    dsimp only
    simp only [List.exists_mem_cons_iff]
    have hlt : (y 0).val < 10 := (y 0).isLt
    generalize hk : (y 0).val = k at hlt hm
    interval_cases k
    · exact .inr <| .inr <| .inr <| .inr <| .inr <| .inr <| .inr <| .inr <| .inr <| .inl (hm _ rfl _)
    · exact .inr <| .inr <| .inr <| .inr <| .inr <| .inr <| .inr <| .inr <| .inl (hm _ rfl _)
    · exact .inr <| .inr <| .inr <| .inr <| .inr <| .inr <| .inr <| .inl (hm _ rfl _)
    · exact .inr <| .inr <| .inr <| .inr <| .inr <| .inr <| .inl (hm _ rfl _)
    · exact .inr <| .inr <| .inr <| .inr <| .inr <| .inl (hm _ rfl _)
    · exact .inr <| .inr <| .inr <| .inr <| .inl (hm _ rfl _)
    · exact .inr <| .inr <| .inr <| .inl (hm _ rfl _)
    · exact .inr <| .inr <| .inl (hm _ rfl _)
    · exact .inr <| .inl (hm _ rfl _)
    · exact .inl (hm _ rfl _)

/-- After the rows below the image are stored, they are the padded image's, and what was right stays right. -/
theorem botRun_rows (hx : Holds X b 2 x1) (hy : Holds Y b 2 x2) (y : S10x400x512.Idx)
    (h : xs0 y = padded X Y b y ∨ 392 ≤ (y 1).val ∧ (y 1).val < 392 + 3) :
    arg6.view.read (Elt F) (arg6.view.writes (Elt F) (harg6.unread xs0) (botRun c i arg2 harg2 arg3 harg3 arg4 harg4 arg5 harg5 arg6 harg6 arg7 harg7 arg8 harg8 x1 x2 xs0).1) y = padded X Y b y := by
  have hL : ∀ (ch : Fin 10) (off : Fin 4 → ℕ) (hoff : off = ![0, ch.val, 127, 0]) (inb : ∀ a, off a + S1x1x1x384.size a ≤ S1x10x128x384.size a)
      (off' : Fin 3 → ℕ) (hoff' : off' = ![ch.val, 392, 0]) (inb' : ∀ a, off' a + S1x3x512.size a ≤ S10x400x512.size a),
      Agrees (padded X Y b) ⟨Rect.unit (s := S10x400x512) off' S1x3x512.size inb',
        k0_pay21 (arg3.view.readAt (Elt F) (Rect.unit (s := S1x10x128x384) off S1x1x1x384.size inb).toLoadRect (harg3.unread x1))
          (arg4.view.readAt (Elt F) (Rect.unit (s := S1x10x128x384) off S1x1x1x384.size inb).toLoadRect (harg4.unread x2))⟩ := by
    intro ch off hoff inb off' hoff' inb'
    subst hoff
    refine edge_agrees hx hy ch 127 383 rfl 392 (by decide) hoff' inb' _ _ (fun w => ?_) (fun w => ?_)
    · rw [harg3.readAt_unread]; congr 1; funext a; fin_cases a <;> apply Fin.ext <;> simp [LoadRect.idx]
    · rw [harg4.readAt_unread]; congr 1; funext a; fin_cases a <;> apply Fin.ext <;> simp [LoadRect.idx]
  refine writes_agree _ _ _ ?_ y ?_
  · unfold botRun
    dsimp only
    simp only [List.forall_mem_cons, List.not_mem_nil, false_imp_iff, implies_true, and_true]
    exact ⟨hL 9 _ rfl _ _ rfl _, hL 8 _ rfl _ _ rfl _, hL 7 _ rfl _ _ rfl _, hL 6 _ rfl _ _ rfl _, hL 5 _ rfl _ _ rfl _, hL 4 _ rfl _ _ rfl _, hL 3 _ rfl _ _ rfl _, hL 2 _ rfl _ _ rfl _, hL 1 _ rfl _ _ rfl _, hL 0 _ rfl _ _ rfl _⟩
  · rw [harg6.read_unread]
    refine h.imp id fun h => ?_
    have hm := fun off hoff inb => mem_rows y 3 392 (off := off) hoff inb h.1 h.2
    unfold botRun
    dsimp only
    simp only [List.exists_mem_cons_iff]
    have hlt : (y 0).val < 10 := (y 0).isLt
    generalize hk : (y 0).val = k at hlt hm
    interval_cases k
    · exact .inr <| .inr <| .inr <| .inr <| .inr <| .inr <| .inr <| .inr <| .inr <| .inl (hm _ rfl _)
    · exact .inr <| .inr <| .inr <| .inr <| .inr <| .inr <| .inr <| .inr <| .inl (hm _ rfl _)
    · exact .inr <| .inr <| .inr <| .inr <| .inr <| .inr <| .inr <| .inl (hm _ rfl _)
    · exact .inr <| .inr <| .inr <| .inr <| .inr <| .inr <| .inl (hm _ rfl _)
    · exact .inr <| .inr <| .inr <| .inr <| .inr <| .inl (hm _ rfl _)
    · exact .inr <| .inr <| .inr <| .inr <| .inl (hm _ rfl _)
    · exact .inr <| .inr <| .inr <| .inl (hm _ rfl _)
    · exact .inr <| .inr <| .inl (hm _ rfl _)
    · exact .inr <| .inl (hm _ rfl _)
    · exact .inl (hm _ rfl _)

end runs

end Cert.KernelIdeal.Disk

end
-- ==== Proof.Render.lean ====
module

public import proofs.«01_k».proof.Proof.Stretches
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What rendering one block leaves in the output buffer and the two working scratches, as pieces (last first), with
    the proof that it runs: the window scratch is read and left as it was. -/
def renderRun (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (v1 : Elt F .f32) (h4 : k0_cond4 i = 1#1)
    (xs0 : Vec F S10x400x512 .f32) :
    Σ' (L3 : List (View.Piece (Elt F) S1x3x128x384 .f32)) (LT1 : List (View.Piece (Elt F) S5x144x512 .f32)),
    { LT2 : List (View.Piece (Elt F) S7x5x128x512 .f32) //
      ∀ (E : Set ℕ) (K : PUnit → sProp 𝕄),
        iprop((∃ d, owns (c : Thread nD τ) arg5 fullShare d) ∗ owns (c : Thread nD τ) arg6 fullShare xs0
            ∗ (∃ d, owns (c : Thread nD τ) arg7 fullShare d) ∗ (∃ d, owns (c : Thread nD τ) arg8 fullShare d)
            ∗ (iprop((∃ f, arg5.view.loc (c : Thread nD τ) ↦[arg5.view.set]{fullShare} arg5.view.writes (Elt F) f L3)
                ∗ owns (c : Thread nD τ) arg6 fullShare xs0
                ∗ (∃ f, arg7.view.loc (c : Thread nD τ) ↦[arg7.view.set]{fullShare} arg7.view.writes (Elt F) f LT1)
                ∗ (∃ f, arg8.view.loc (c : Thread nD τ) ↦[arg8.view.set]{fullShare} arg8.view.writes (Elt F) f LT2)) -∗ K ⟨⟩))
          ⊢ wp frame (wpE (defs₀ (F := F)) Variants.none c none) E (renderProg i arg2 harg2 arg3 harg3 arg4 harg4 arg5 harg5 arg6 harg6 arg7 harg7 arg8 harg8 v1 h4) K } := by
  refine ⟨?_, ?_, ?_, fun E K => ?run⟩
  case run =>
    unfold renderProg
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%d3, %f3, -, H3⟩, ⟨%fs0, %hfs0, HS0⟩, ⟨%ds1, %fs1, -, HS1⟩, ⟨%ds2, %fs2, -, HS2⟩, Hk⟩
    obtain rfl := harg6.eq_unread hfs0
    sl_exec (disch := first | sl_exact h4)
    sl_step
    iapply Hk
    isplitl [H3]; · iexists _; iexact H3
    isplitl [HS0]
    · iexists _; isplitr; · ipureintro; exact harg6.read_unread _
      iexact HS0
    isplitl [HS1]; · iexists _; iexact HS1
    iexists _; iexact HS2

end Cert.KernelIdeal.Disk

end
-- ==== Proof.Field.lean ====
module

public import proofs.«01_k».proof.Proof.Padded
public import proofs.«01_k».proof.Proof.Render
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A pixel's blur radius plus one half. -/
def thr (le d : F .f32) : F .f32 := FloatOps.addf (FloatOps.absf (FloatOps.mulf d le)) (FloatOps.ofBits .f32 0x3F000000#32)

/-- `n` where the threshold reaches the distance `r`, else nothing. -/
def ring (t : F .f32) (r n : BitVec 32) : F .f32 :=
  Scalar.select (FloatOps.cmpf .oge t (FloatOps.ofBits .f32 r)) (FloatOps.ofBits .f32 n) (FloatOps.ofBits .f32 0#32)

/-- The number of taps of the disk a pixel's blur reaches, ring by ring. -/
def area (t : F .f32) : F .f32 :=
  FloatOps.addf (FloatOps.addf (FloatOps.addf (FloatOps.addf (FloatOps.addf (FloatOps.addf (FloatOps.ofBits .f32 1065353216#32)
    (ring t 1065353216#32 1082130432#32)) (ring t 1068827891#32 1082130432#32)) (ring t 1073741824#32 1082130432#32))
    (ring t 1074731965#32 1090519040#32)) (ring t 1077216499#32 1082130432#32)) (ring t 1077936128#32 1082130432#32)

/-- A pixel's opacity spread over the disk its blur reaches. -/
def weight (le d a : F .f32) : F .f32 :=
  FloatOps.mulf a (FloatOps.divf (FloatOps.ofBits .f32 1065353216#32) (FloatOps.addf (area (thr le d)) (FloatOps.ofBits .f32 841731191#32)))

/-- The five fields a pixel scatters: its threshold, its three weighted colours and its weight. -/
def tap (le : F .f32) (w : Fin 5 → F .f32) : Fin 5 → F .f32 :=
  ![thr le (w 4), FloatOps.mulf (w 0) (weight le (w 4) (w 3)), FloatOps.mulf (w 1) (weight le (w 4) (w 3)),
    FloatOps.mulf (w 2) (weight le (w 4) (w 3)), weight le (w 4) (w 3)]

section payloads

variable (le : F .f32) (u v w : Vec F S1x144x512 .f32) (y : Fin 144) (k : Fin 512)

/-- The first layer's threshold field at an element. -/
theorem thr0_apply : k0_pay49 (k0_pay45 le u) (ix3 0 y k) = thr le (u (ix3 0 y k)) := by
  pointwise [k0_pay49, k0_pay45]
  rfl

/-- The second layer's threshold field at an element. -/
theorem thr1_apply : k0_pay90 (k0_pay87 le u) (ix3 0 y k) = thr le (u (ix3 0 y k)) := by
  pointwise [k0_pay90, k0_pay87]
  rfl

/-- The first layer's weight field, from its depth and opacity. -/
abbrev weight0 : FVec F S144x512 .f32 :=
  k0_pay48 (k0_pay44 v) (k0_pay45 le u) (k0_pay46 le u) (k0_pay47 le u) (FloatOps.ofBits FTy.f32 1082130432#32) (FloatOps.ofBits FTy.f32 0#32)

/-- The second layer's weight field, from its depth and opacity. -/
abbrev weight1 : FVec F S144x512 .f32 :=
  k0_pay89 (k0_pay86 v) (k0_pay88 (k0_pay87 le u)) (FloatOps.ofBits FTy.f32 1065353216#32)

/-- The first layer's weight field at an element. -/
theorem weight0_apply : weight0 le u v (ix2 y k) = weight le (u (ix3 0 y k)) (v (ix3 0 y k)) := by
  have h : k0_pay45 le u (ix2 y k) = thr le (u (ix3 0 y k)) := by
    pointwise [k0_pay45]
    rfl
  pointwise [weight0, k0_pay44, k0_pay46, k0_pay47, k0_pay48]
  rw [h]
  rfl

/-- The second layer's weight field at an element. -/
theorem weight1_apply : weight1 le u v (ix2 y k) = weight le (u (ix3 0 y k)) (v (ix3 0 y k)) := by
  have h : k0_pay87 le u (ix2 y k) = thr le (u (ix3 0 y k)) := by
    pointwise [k0_pay87]
    rfl
  pointwise [weight1, k0_pay86, k0_pay88, k0_pay89]
  rw [h]
  rfl

/-- A weighted colour field at an element, from the colour and the weight. -/
theorem colour_apply (p : FVec F S144x512 .f32) :
    k0_pay52 (k0_pay41 w) p (ix3 0 y k) = FloatOps.mulf (w (ix3 0 y k)) (p (ix2 y k)) := by
  pointwise [k0_pay52, k0_pay41]

/-- A weight field stored as a plane, at an element. -/
theorem plane_apply (p : FVec F S144x512 .f32) : k0_pay53 p (ix3 0 y k) = p (ix2 y k) := by
  pointwise [k0_pay53]

end payloads

/-- A row of the padded image. -/
def rowAt (n : ℕ) : Fin 400 := ⟨min n 399, by omega⟩

/-- A row number of the padded image is itself. -/
theorem rowAt_of_lt {n : ℕ} (h : n < 400) : rowAt n = ⟨n, h⟩ := Fin.ext (by simp only [rowAt]; omega)

/-- Channel `c` of layer `li`. -/
def chan (li : Fin 2) (c : Fin 5) : Fin 10 := ⟨5 * li.val + c.val, by omega⟩

/-- The five fields of layer `li` at an element of the padded image. -/
def fields (le : F .f32) (d : Vec F S10x400x512 .f32) (li : Fin 2) (q : Fin 5) (row : ℕ) (k : Fin 512) : F .f32 :=
  tap le (fun c => d (ix3 (chan li c) (rowAt row) k)) q

/-- The fields of 144 rows from `R`. -/
def stack (le : F .f32) (d : Vec F S10x400x512 .f32) (R : ℕ) (li : Fin 2) : Vec F S5x144x512 .f32 :=
  fun j => fields le d li (j 0) (R + (j 1).val) (j 2)

/-- The fields of 128 rows, at each of the seven vertical offsets. -/
def shifted (le : F .f32) (d : Vec F S10x400x512 .f32) (R : ℕ) (li : Fin 2) : Vec F S7x5x128x512 .f32 :=
  fun j => fields le d li (j 1) (R + 5 + (j 0).val + (j 2).val) (j 3)

/-- Of the fields at offset `uo`, the four that are summed. -/
def quad (le : F .f32) (d : Vec F S10x400x512 .f32) (R : ℕ) (li : Fin 2) (uo : Fin 7) : Vec F S1x4x128x512 .f32 :=
  fun j => fields le d li ⟨1 + (j 1).val, Nat.add_comm 1 _ ▸ Nat.succ_lt_succ (j 1).isLt⟩ (R + 5 + uo.val + (j 2).val) (j 3)

/-- Of the fields at offset `uo`, the threshold. -/
def mark (le : F .f32) (d : Vec F S10x400x512 .f32) (R : ℕ) (li : Fin 2) (uo : Fin 7) : Vec F S1x1x128x512 .f32 :=
  fun j => fields le d li 0 (R + 5 + uo.val + (j 2).val) (j 3)

/-- Pieces on top of others: where one of the top pieces covers, and they all agree with a function, the contents are the function's. -/
theorem canon_append_of_pieces {S : Shape} {e : EltTy} [∀ e, Nonempty (Elt F e)] (G : S.Idx → Elt F e) (L' : List (View.Piece (Elt F) S e)) :
    ∀ (L : List (View.Piece (Elt F) S e)) (_ : ∀ p ∈ L, ∀ x : p.1.shape.Idx, p.2 x = G (p.1.emb x)) (y : S.Idx)
      (_ : ∃ p ∈ L, y ∈ p.1.set), View.canon (L ++ L') y = G y
  | [], _, _, h => by obtain ⟨p, hp, _⟩ := h; exact absurd hp List.not_mem_nil
  | p :: L, hL, y, h => by
    rw [List.cons_append]
    by_cases hm : y ∈ p.1.set
    · obtain ⟨r, w⟩ := p
      obtain ⟨x, rfl⟩ : ∃ x, r.emb x = y := r.exists_idx_of_mem hm
      rw [View.canon_cons_emb]
      exact hL ⟨r, w⟩ List.mem_cons_self x
    · rw [View.canon_cons_of_not_mem _ _ hm]
      refine canon_append_of_pieces G L' L (fun p' hp' => hL p' (List.mem_cons_of_mem _ hp')) y ?_
      obtain ⟨p', hp', hy⟩ := h
      rcases List.mem_cons.mp hp' with rfl | hp'
      · exact absurd hy hm
      · exact ⟨p', hp', hy⟩

/-- The first row of the window a block renders from. -/
def base (i : grid0.Coords) : ℕ := 128 * ((i 1).val - 1)

theorem off12_eq : ∀ i : grid0.Coords, k0_cond4 i = 1#1 → k0_off12 i = ![0, base i, 0] := by unfold base; decide +kernel
theorem off13_eq : ∀ i : grid0.Coords, k0_cond4 i = 1#1 → k0_off13 i = ![1, base i, 0] := by unfold base; decide +kernel
theorem off14_eq : ∀ i : grid0.Coords, k0_cond4 i = 1#1 → k0_off14 i = ![2, base i, 0] := by unfold base; decide +kernel
theorem off15_eq : ∀ i : grid0.Coords, k0_cond4 i = 1#1 → k0_off15 i = ![3, base i, 0] := by unfold base; decide +kernel
theorem off16_eq : ∀ i : grid0.Coords, k0_cond4 i = 1#1 → k0_off16 i = ![4, base i, 0] := by unfold base; decide +kernel
theorem off17_eq : ∀ i : grid0.Coords, k0_cond4 i = 1#1 → k0_off17 i = ![5, base i, 0] := by unfold base; decide +kernel
theorem off18_eq : ∀ i : grid0.Coords, k0_cond4 i = 1#1 → k0_off18 i = ![6, base i, 0] := by unfold base; decide +kernel
theorem off19_eq : ∀ i : grid0.Coords, k0_cond4 i = 1#1 → k0_off19 i = ![7, base i, 0] := by unfold base; decide +kernel
theorem off20_eq : ∀ i : grid0.Coords, k0_cond4 i = 1#1 → k0_off20 i = ![8, base i, 0] := by unfold base; decide +kernel
theorem off21_eq : ∀ i : grid0.Coords, k0_cond4 i = 1#1 → k0_off21 i = ![9, base i, 0] := by unfold base; decide +kernel

section loads

variable (c : Dev nD) (i : grid0.Coords) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (v1 : Elt F .f32) (h4 : k0_cond4 i = 1#1) (d : Vec F S10x400x512 .f32)

include h4 in
/-- A channel of the window, loaded, at an element. -/
theorem load_apply (li : Fin 2) (q : Fin 5) {off : Fin 3 → ℕ} (hoff : off = ![(chan li q).val, base i, 0])
    (inb : ∀ a, off a + S1x144x512.size a ≤ S10x400x512.size a) (y : Fin 144) (k : Fin 512) :
    arg6.view.readAt (Elt F) (Rect.unit (s := S10x400x512) off S1x144x512.size inb).toLoadRect (harg6.unread d) (ix3 0 y k)
      = d (ix3 (chan li q) (rowAt (base i + y.val)) k) := by
  subst hoff
  have hb : base i + y.val < 400 := by have h := inb 1; simp at h; omega
  rw [harg6.readAt_unread, rowAt_of_lt hb]
  congr 1; funext a; fin_cases a <;> apply Fin.ext <;> simp [LoadRect.idx]

/-- A plane stored into the working stack agrees with the fields. -/
theorem plane_agrees (li : Fin 2) (q : Fin 5) (inb : ∀ a, (![q.val, 0, 0] : Fin 3 → ℕ) a + S1x144x512.size a ≤ S5x144x512.size a)
    (p : Vec F S1x144x512 .f32) (hp : ∀ y k, p (ix3 0 y k) = fields v1 d li q (base i + y.val) k) (x : S1x144x512.Idx) :
    p x = stack v1 d (base i) li ((Rect.unit (s := S5x144x512) ![q.val, 0, 0] S1x144x512.size inb).emb x) := by
  idx_vars x
  obtain rfl : x0 = 0 := Subsingleton.elim _ _
  have e : (Rect.unit (s := S5x144x512) ![q.val, 0, 0] S1x144x512.size inb).emb (ix3 0 x1 x2) = ix3 q x1 x2 :=
    Rect.emb_eq_of_coords _ _ _ (by intro a; fin_cases a <;> simp)
  rw [hp]
  erw [e]
  rfl

/-- The first layer's planes agree with its fields. -/
theorem planes0_agree : ∀ p ∈ (renderRun.sl.HS1_5 c i arg6 harg6 v1 h4 d).take 5, ∀ x : p.1.shape.Idx, p.2 x = stack v1 d (base i) 0 (p.1.emb x) := by
  have l := fun q {off} hoff inb => load_apply i arg6 harg6 h4 d 0 q (off := off) hoff inb
  have hw : ∀ y k, weight0 v1 (arg6.view.readAt (Elt F) (Rect.unit (s := S10x400x512) (k0_off16 i) S1x144x512.size (k0_off16_inb i h4)).toLoadRect (harg6.unread d))
      (arg6.view.readAt (Elt F) (Rect.unit (s := S10x400x512) (k0_off15 i) S1x144x512.size (k0_off15_inb i h4)).toLoadRect (harg6.unread d)) (ix2 y k)
        = fields v1 d 0 4 (base i + y.val) k := fun y k => by
    rw [weight0_apply, l 4 (off16_eq i h4), l 3 (off15_eq i h4)]
    rfl
  have hc : ∀ (q : Fin 3) {off : Fin 3 → ℕ} (hoff : off = ![(chan 0 (q.castLE (by decide))).val, base i, 0]) (inb : ∀ a, off a + S1x144x512.size a ≤ S10x400x512.size a) (y : Fin 144) (k : Fin 512),
      k0_pay52 (k0_pay41 (arg6.view.readAt (Elt F) (Rect.unit (s := S10x400x512) off S1x144x512.size inb).toLoadRect (harg6.unread d)))
        (weight0 v1 (arg6.view.readAt (Elt F) (Rect.unit (s := S10x400x512) (k0_off16 i) S1x144x512.size (k0_off16_inb i h4)).toLoadRect (harg6.unread d))
          (arg6.view.readAt (Elt F) (Rect.unit (s := S10x400x512) (k0_off15 i) S1x144x512.size (k0_off15_inb i h4)).toLoadRect (harg6.unread d))) (ix3 0 y k)
        = fields v1 d 0 ⟨q.val + 1, by omega⟩ (base i + y.val) k := fun q off hoff inb y k => by
    rw [colour_apply, hw, l _ hoff]
    fin_cases q <;> rfl
  unfold renderRun.sl.HS1_5
  simp only [List.take_succ_cons, List.take_zero, List.forall_mem_cons, List.not_mem_nil, false_imp_iff, implies_true, and_true]
  refine ⟨plane_agrees i v1 d 0 4 _ _ fun y k => ?_, plane_agrees i v1 d 0 3 _ _ (hc 2 (off14_eq i h4) _),
    plane_agrees i v1 d 0 2 _ _ (hc 1 (off13_eq i h4) _), plane_agrees i v1 d 0 1 _ _ (hc 0 (off12_eq i h4) _), plane_agrees i v1 d 0 0 _ _ fun y k => ?_⟩
  · exact (plane_apply y k _).trans (hw y k)
  · exact (thr0_apply v1 _ y k).trans (congrArg (thr v1) (l 4 (off16_eq i h4) _ y k))

/-- The second layer's planes agree with its fields. -/
theorem planes1_agree : ∀ p ∈ (renderRun.sl.HS1_10 c i arg6 harg6 v1 h4 d).take 5, ∀ x : p.1.shape.Idx, p.2 x = stack v1 d (base i) 1 (p.1.emb x) := by
  have l := fun q {off} hoff inb => load_apply i arg6 harg6 h4 d 1 q (off := off) hoff inb
  have hw : ∀ y k, weight1 v1 (arg6.view.readAt (Elt F) (Rect.unit (s := S10x400x512) (k0_off21 i) S1x144x512.size (k0_off21_inb i h4)).toLoadRect (harg6.unread d))
      (arg6.view.readAt (Elt F) (Rect.unit (s := S10x400x512) (k0_off20 i) S1x144x512.size (k0_off20_inb i h4)).toLoadRect (harg6.unread d)) (ix2 y k)
        = fields v1 d 1 4 (base i + y.val) k := fun y k => by
    rw [weight1_apply, l 4 (off21_eq i h4), l 3 (off20_eq i h4)]
    rfl
  have hc : ∀ (q : Fin 3) {off : Fin 3 → ℕ} (hoff : off = ![(chan 1 (q.castLE (by decide))).val, base i, 0]) (inb : ∀ a, off a + S1x144x512.size a ≤ S10x400x512.size a) (y : Fin 144) (k : Fin 512),
      k0_pay52 (k0_pay41 (arg6.view.readAt (Elt F) (Rect.unit (s := S10x400x512) off S1x144x512.size inb).toLoadRect (harg6.unread d)))
        (weight1 v1 (arg6.view.readAt (Elt F) (Rect.unit (s := S10x400x512) (k0_off21 i) S1x144x512.size (k0_off21_inb i h4)).toLoadRect (harg6.unread d))
          (arg6.view.readAt (Elt F) (Rect.unit (s := S10x400x512) (k0_off20 i) S1x144x512.size (k0_off20_inb i h4)).toLoadRect (harg6.unread d))) (ix3 0 y k)
        = fields v1 d 1 ⟨q.val + 1, by omega⟩ (base i + y.val) k := fun q off hoff inb y k => by
    rw [colour_apply, hw, l _ hoff]
    fin_cases q <;> rfl
  unfold renderRun.sl.HS1_10
  simp only [List.take_succ_cons, List.take_zero, List.forall_mem_cons, List.not_mem_nil, false_imp_iff, implies_true, and_true]
  refine ⟨plane_agrees i v1 d 1 4 _ _ fun y k => ?_, plane_agrees i v1 d 1 3 _ _ (hc 2 (off19_eq i h4) _),
    plane_agrees i v1 d 1 2 _ _ (hc 1 (off18_eq i h4) _), plane_agrees i v1 d 1 1 _ _ (hc 0 (off17_eq i h4) _), plane_agrees i v1 d 1 0 _ _ fun y k => ?_⟩
  · exact (plane_apply y k _).trans (hw y k)
  · exact (thr1_apply v1 _ y k).trans (congrArg (thr v1) (l 4 (off21_eq i h4) _ y k))

end loads

end Cert.KernelIdeal.Disk

end
-- ==== Proof.Loads.lean ====
module

public import proofs.«01_k».proof.Proof.Field
public import proofs.«01_k».proof.Proof.Render
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section loads

variable (c : Dev nD) (i : grid0.Coords) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (v1 : Elt F .f32) (h4 : k0_cond4 i = 1#1) (d : Vec F S10x400x512 .f32)

/-- Seven shifted rows of a stack of fields, stored as one slab, agree with the shifted fields. -/
theorem slab_agrees (li : Fin 2) (uo : Fin 7) (inb : ∀ a, (![uo.val, 0, 0, 0] : Fin 4 → ℕ) a + S1x5x128x512.size a ≤ S7x5x128x512.size a)
    (p : Vec F S5x128x512 .f32) (hp : ∀ q y k, p (ix3 q y k) = fields v1 d li q (base i + 5 + uo.val + y.val) k) (x : S1x5x128x512.Idx) :
    k0_pay54 p x = shifted v1 d (base i) li ((Rect.unit (s := S7x5x128x512) ![uo.val, 0, 0, 0] S1x5x128x512.size inb).emb x) := by
  idx_vars x
  obtain rfl : x0 = 0 := Subsingleton.elim _ _
  have e : (Rect.unit (s := S7x5x128x512) ![uo.val, 0, 0, 0] S1x5x128x512.size inb).emb (ix4 0 x1 x2 x3) = ix4 uo x1 x2 x3 :=
    Rect.emb_eq_of_coords _ _ _ (by intro a; fin_cases a <;> simp)
  have h : k0_pay54 p (ix4 0 x1 x2 x3) = p (ix3 x1 x2 x3) := by pointwise [k0_pay54]
  rw [h, hp]
  erw [e]
  rfl

/-- The five planes cover the working stack. -/
theorem mem_plane (y : S5x144x512.Idx) (q : ℕ) (hq : (y 0).val = q) (inb : ∀ a, (![q, 0, 0] : Fin 3 → ℕ) a + S1x144x512.size a ≤ S5x144x512.size a) :
    y ∈ (Rect.unit (s := S5x144x512) ![q, 0, 0] S1x144x512.size inb).set := by
  subst hq
  rw [Rect.mem_set_unit]
  have h1 : (y 1).val < 144 := (y 1).isLt
  have h2 : (y 2).val < 512 := (y 2).isLt
  intro a
  fin_cases a
  · exact ⟨le_rfl, Nat.lt_succ_self _⟩
  · exact ⟨Nat.zero_le _, by simpa using h1⟩
  · exact ⟨Nat.zero_le _, by simpa using h2⟩

/-- The seven slabs cover the shifted stack. -/
theorem mem_slab (y : S7x5x128x512.Idx) (q : ℕ) (hq : (y 0).val = q) (inb : ∀ a, (![q, 0, 0, 0] : Fin 4 → ℕ) a + S1x5x128x512.size a ≤ S7x5x128x512.size a) :
    y ∈ (Rect.unit (s := S7x5x128x512) ![q, 0, 0, 0] S1x5x128x512.size inb).set := by
  subst hq
  rw [Rect.mem_set_unit]
  have h1 : (y 1).val < 5 := (y 1).isLt
  have h2 : (y 2).val < 128 := (y 2).isLt
  have h3 : (y 3).val < 512 := (y 3).isLt
  intro a
  fin_cases a
  · exact ⟨le_rfl, Nat.lt_succ_self _⟩
  · exact ⟨Nat.zero_le _, by simpa using h1⟩
  · exact ⟨Nat.zero_le _, by simpa using h2⟩
  · exact ⟨Nat.zero_le _, by simpa using h3⟩

/-- What a load of 128 rows of the first layer's stack reads. -/
theorem stack0_load (uo : Fin 7) (inb : ∀ a, (![0, 5 + uo.val, 0] : Fin 3 → ℕ) a + S5x128x512.size a ≤ S5x144x512.size a) (q : Fin 5) (y : Fin 128) (k : Fin 512) :
    arg7.view.readCov (renderRun.sl.HS1_5 c i arg6 harg6 v1 h4 d) (Rect.unit (s := S5x144x512) ![0, 5 + uo.val, 0] S5x128x512.size inb).toLoadRect (ix3 q y k)
      = fields v1 d 0 q (base i + 5 + uo.val + y.val) k := by
  rw [View.readCov_eq_canon']
  beta_reduce
  rw [← List.take_append_drop 5 (renderRun.sl.HS1_5 c i arg6 harg6 v1 h4 d),
    canon_append_of_pieces (stack v1 d (base i) 0) _ _ (planes0_agree c i arg6 harg6 v1 h4 d)]
  · have e : (Rect.unit (s := S5x144x512) ![0, 5 + uo.val, 0] S5x128x512.size inb).toLoadRect.idx (ix3 q y k) = ix3 q ⟨5 + uo.val + y.val, by omega⟩ k := by
      funext a; fin_cases a <;> apply Fin.ext <;> simp [LoadRect.idx]
    rw [e]
    show fields v1 d 0 q (base i + (5 + uo.val + y.val)) k = _
    congr 1; omega
  · unfold renderRun.sl.HS1_5
    simp only [List.take_succ_cons, List.take_zero, List.exists_mem_cons_iff]
    generalize (Rect.unit (s := S5x144x512) ![0, 5 + uo.val, 0] S5x128x512.size inb).toLoadRect.idx (ix3 q y k) = z
    have hlt : (z 0).val < 5 := (z 0).isLt
    generalize hk : (z 0).val = n at hlt
    interval_cases n
    · exact .inr <| .inr <| .inr <| .inr <| .inl (mem_plane z 0 hk _)
    · exact .inr <| .inr <| .inr <| .inl (mem_plane z 1 hk _)
    · exact .inr <| .inr <| .inl (mem_plane z 2 hk _)
    · exact .inr <| .inl (mem_plane z 3 hk _)
    · exact .inl (mem_plane z 4 hk _)

/-- What a load of 128 rows of the second layer's stack reads. -/
theorem stack1_load (uo : Fin 7) (inb : ∀ a, (![0, 5 + uo.val, 0] : Fin 3 → ℕ) a + S5x128x512.size a ≤ S5x144x512.size a) (q : Fin 5) (y : Fin 128) (k : Fin 512) :
    arg7.view.readCov (renderRun.sl.HS1_10 c i arg6 harg6 v1 h4 d) (Rect.unit (s := S5x144x512) ![0, 5 + uo.val, 0] S5x128x512.size inb).toLoadRect (ix3 q y k)
      = fields v1 d 1 q (base i + 5 + uo.val + y.val) k := by
  rw [View.readCov_eq_canon']
  beta_reduce
  rw [← List.take_append_drop 5 (renderRun.sl.HS1_10 c i arg6 harg6 v1 h4 d),
    canon_append_of_pieces (stack v1 d (base i) 1) _ _ (planes1_agree c i arg6 harg6 v1 h4 d)]
  · have e : (Rect.unit (s := S5x144x512) ![0, 5 + uo.val, 0] S5x128x512.size inb).toLoadRect.idx (ix3 q y k) = ix3 q ⟨5 + uo.val + y.val, by omega⟩ k := by
      funext a; fin_cases a <;> apply Fin.ext <;> simp [LoadRect.idx]
    rw [e]
    show fields v1 d 1 q (base i + (5 + uo.val + y.val)) k = _
    congr 1; omega
  · unfold renderRun.sl.HS1_10
    simp only [List.take_succ_cons, List.take_zero, List.exists_mem_cons_iff]
    generalize (Rect.unit (s := S5x144x512) ![0, 5 + uo.val, 0] S5x128x512.size inb).toLoadRect.idx (ix3 q y k) = z
    have hlt : (z 0).val < 5 := (z 0).isLt
    generalize hk : (z 0).val = n at hlt
    interval_cases n
    · exact .inr <| .inr <| .inr <| .inr <| .inl (mem_plane z 0 hk _)
    · exact .inr <| .inr <| .inr <| .inl (mem_plane z 1 hk _)
    · exact .inr <| .inr <| .inl (mem_plane z 2 hk _)
    · exact .inr <| .inl (mem_plane z 3 hk _)
    · exact .inl (mem_plane z 4 hk _)

/-- The first layer's slabs agree with its shifted fields. -/
theorem slabs0_agree : ∀ p ∈ (renderRun.sl.HS2_7 c i arg6 harg6 arg7 v1 h4 d).take 7, ∀ x : p.1.shape.Idx, p.2 x = shifted v1 d (base i) 0 (p.1.emb x) := by
  have l := fun (uo : Fin 7) inb q y k => stack0_load c i arg6 harg6 arg7 v1 h4 d uo inb q y k
  unfold renderRun.sl.HS2_7
  simp only [List.take_succ_cons, List.take_zero, List.forall_mem_cons, List.not_mem_nil, false_imp_iff, implies_true, and_true]
  exact ⟨slab_agrees i v1 d 0 6 _ _ (l 6 _), slab_agrees i v1 d 0 5 _ _ (l 5 _), slab_agrees i v1 d 0 4 _ _ (l 4 _), slab_agrees i v1 d 0 3 _ _ (l 3 _), slab_agrees i v1 d 0 2 _ _ (l 2 _), slab_agrees i v1 d 0 1 _ _ (l 1 _), slab_agrees i v1 d 0 0 _ _ (l 0 _)⟩

/-- What the first layer's shifted stack holds. -/
theorem shifted0_apply (z : S7x5x128x512.Idx) : View.canon (renderRun.sl.HS2_7 c i arg6 harg6 arg7 v1 h4 d) z = shifted v1 d (base i) 0 z := by
  rw [← List.take_append_drop 7 (renderRun.sl.HS2_7 c i arg6 harg6 arg7 v1 h4 d), canon_append_of_pieces (shifted v1 d (base i) 0) _ _ (slabs0_agree c i arg6 harg6 arg7 v1 h4 d)]
  unfold renderRun.sl.HS2_7
  simp only [List.take_succ_cons, List.take_zero, List.exists_mem_cons_iff]
  have hlt : (z 0).val < 7 := (z 0).isLt
  generalize hk : (z 0).val = n at hlt
  interval_cases n
  · exact .inr <| .inr <| .inr <| .inr <| .inr <| .inr <| .inl (mem_slab z 0 hk _)
  · exact .inr <| .inr <| .inr <| .inr <| .inr <| .inl (mem_slab z 1 hk _)
  · exact .inr <| .inr <| .inr <| .inr <| .inl (mem_slab z 2 hk _)
  · exact .inr <| .inr <| .inr <| .inl (mem_slab z 3 hk _)
  · exact .inr <| .inr <| .inl (mem_slab z 4 hk _)
  · exact .inr <| .inl (mem_slab z 5 hk _)
  · exact .inl (mem_slab z 6 hk _)

/-- A load of the first layer's four summed fields at an offset. -/
theorem quad0_load (uo : Fin 7) (inb : ∀ a, (![uo.val, 1, 0, 0] : Fin 4 → ℕ) a + S1x4x128x512.size a ≤ S7x5x128x512.size a) :
    arg8.view.readCov (renderRun.sl.HS2_7 c i arg6 harg6 arg7 v1 h4 d) (Rect.unit (s := S7x5x128x512) ![uo.val, 1, 0, 0] S1x4x128x512.size inb).toLoadRect = quad v1 d (base i) 0 uo := by
  rw [View.readCov_eq_canon']
  funext j
  rw [shifted0_apply]
  change S1x4x128x512.Idx at j
  idx_vars j
  obtain rfl : j0 = 0 := Subsingleton.elim _ _
  have e : (Rect.unit (s := S7x5x128x512) ![uo.val, 1, 0, 0] S1x4x128x512.size inb).toLoadRect.idx (ix4 0 j1 j2 j3) = ix4 uo ⟨1 + j1.val, by omega⟩ j2 j3 := by
    funext a; fin_cases a <;> apply Fin.ext <;> simp [LoadRect.idx]
  erw [e]
  rfl

/-- A load of the first layer's threshold at an offset. -/
theorem mark0_load (uo : Fin 7) (inb : ∀ a, (![uo.val, 0, 0, 0] : Fin 4 → ℕ) a + S1x1x128x512.size a ≤ S7x5x128x512.size a) :
    arg8.view.readCov (renderRun.sl.HS2_7 c i arg6 harg6 arg7 v1 h4 d) (Rect.unit (s := S7x5x128x512) ![uo.val, 0, 0, 0] S1x1x128x512.size inb).toLoadRect = mark v1 d (base i) 0 uo := by
  rw [View.readCov_eq_canon']
  funext j
  rw [shifted0_apply]
  change S1x1x128x512.Idx at j
  idx_vars j
  obtain rfl : j0 = 0 := Subsingleton.elim _ _
  obtain rfl : j1 = 0 := Subsingleton.elim _ _
  have e : (Rect.unit (s := S7x5x128x512) ![uo.val, 0, 0, 0] S1x1x128x512.size inb).toLoadRect.idx (ix4 0 0 j2 j3) = ix4 uo 0 j2 j3 := by
    funext a; fin_cases a <;> apply Fin.ext <;> simp [LoadRect.idx]
  erw [e]
  rfl

/-- The second layer's slabs agree with its shifted fields. -/
theorem slabs1_agree : ∀ p ∈ (renderRun.sl.HS2_14 c i arg6 harg6 arg7 v1 h4 d).take 7, ∀ x : p.1.shape.Idx, p.2 x = shifted v1 d (base i) 1 (p.1.emb x) := by
  have l := fun (uo : Fin 7) inb q y k => stack1_load c i arg6 harg6 arg7 v1 h4 d uo inb q y k
  unfold renderRun.sl.HS2_14
  simp only [List.take_succ_cons, List.take_zero, List.forall_mem_cons, List.not_mem_nil, false_imp_iff, implies_true, and_true]
  exact ⟨slab_agrees i v1 d 1 6 _ _ (l 6 _), slab_agrees i v1 d 1 5 _ _ (l 5 _), slab_agrees i v1 d 1 4 _ _ (l 4 _), slab_agrees i v1 d 1 3 _ _ (l 3 _), slab_agrees i v1 d 1 2 _ _ (l 2 _), slab_agrees i v1 d 1 1 _ _ (l 1 _), slab_agrees i v1 d 1 0 _ _ (l 0 _)⟩

/-- What the second layer's shifted stack holds. -/
theorem shifted1_apply (z : S7x5x128x512.Idx) : View.canon (renderRun.sl.HS2_14 c i arg6 harg6 arg7 v1 h4 d) z = shifted v1 d (base i) 1 z := by
  rw [← List.take_append_drop 7 (renderRun.sl.HS2_14 c i arg6 harg6 arg7 v1 h4 d), canon_append_of_pieces (shifted v1 d (base i) 1) _ _ (slabs1_agree c i arg6 harg6 arg7 v1 h4 d)]
  unfold renderRun.sl.HS2_14
  simp only [List.take_succ_cons, List.take_zero, List.exists_mem_cons_iff]
  have hlt : (z 0).val < 7 := (z 0).isLt
  generalize hk : (z 0).val = n at hlt
  interval_cases n
  · exact .inr <| .inr <| .inr <| .inr <| .inr <| .inr <| .inl (mem_slab z 0 hk _)
  · exact .inr <| .inr <| .inr <| .inr <| .inr <| .inl (mem_slab z 1 hk _)
  · exact .inr <| .inr <| .inr <| .inr <| .inl (mem_slab z 2 hk _)
  · exact .inr <| .inr <| .inr <| .inl (mem_slab z 3 hk _)
  · exact .inr <| .inr <| .inl (mem_slab z 4 hk _)
  · exact .inr <| .inl (mem_slab z 5 hk _)
  · exact .inl (mem_slab z 6 hk _)

/-- A load of the second layer's four summed fields at an offset. -/
theorem quad1_load (uo : Fin 7) (inb : ∀ a, (![uo.val, 1, 0, 0] : Fin 4 → ℕ) a + S1x4x128x512.size a ≤ S7x5x128x512.size a) :
    arg8.view.readCov (renderRun.sl.HS2_14 c i arg6 harg6 arg7 v1 h4 d) (Rect.unit (s := S7x5x128x512) ![uo.val, 1, 0, 0] S1x4x128x512.size inb).toLoadRect = quad v1 d (base i) 1 uo := by
  rw [View.readCov_eq_canon']
  funext j
  rw [shifted1_apply]
  change S1x4x128x512.Idx at j
  idx_vars j
  obtain rfl : j0 = 0 := Subsingleton.elim _ _
  have e : (Rect.unit (s := S7x5x128x512) ![uo.val, 1, 0, 0] S1x4x128x512.size inb).toLoadRect.idx (ix4 0 j1 j2 j3) = ix4 uo ⟨1 + j1.val, by omega⟩ j2 j3 := by
    funext a; fin_cases a <;> apply Fin.ext <;> simp [LoadRect.idx]
  erw [e]
  rfl

/-- A load of the second layer's threshold at an offset. -/
theorem mark1_load (uo : Fin 7) (inb : ∀ a, (![uo.val, 0, 0, 0] : Fin 4 → ℕ) a + S1x1x128x512.size a ≤ S7x5x128x512.size a) :
    arg8.view.readCov (renderRun.sl.HS2_14 c i arg6 harg6 arg7 v1 h4 d) (Rect.unit (s := S7x5x128x512) ![uo.val, 0, 0, 0] S1x1x128x512.size inb).toLoadRect = mark v1 d (base i) 1 uo := by
  rw [View.readCov_eq_canon']
  funext j
  rw [shifted1_apply]
  change S1x1x128x512.Idx at j
  idx_vars j
  obtain rfl : j0 = 0 := Subsingleton.elim _ _
  obtain rfl : j1 = 0 := Subsingleton.elim _ _
  have e : (Rect.unit (s := S7x5x128x512) ![uo.val, 0, 0, 0] S1x1x128x512.size inb).toLoadRect.idx (ix4 0 0 j2 j3) = ix4 uo 0 j2 j3 := by
    funext a; fin_cases a <;> apply Fin.ext <;> simp [LoadRect.idx]
  erw [e]
  rfl

end loads

end Cert.KernelIdeal.Disk

end
-- ==== Proof.Picture.lean ====
module

public import proofs.«01_k».proof.Proof.Loads
public import proofs.«01_k».proof.Proof.Render
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first layer's sums down the column of the pixel. -/
def sum0_3 (Q : Fin 7 → Vec F S1x4x128x512 .f32) (T : Fin 7 → Vec F S1x1x128x512 .f32) : FVec F S4x128x512 .f32 :=
  (k0_pay66 (k0_pay64 (k0_pay61 (Q 0)) (k0_pay62 (T 0)) k0_pay63 (Q 1) (T 1) (Q 2) (T 2) (Q 3)) (k0_pay65 (Q 4)) (T 4) (Q 5) (T 5) (Q 6) (T 6))

/-- The first layer's sums down a column one away. -/
def sum0_2 (Q : Fin 7 → Vec F S1x4x128x512 .f32) (T : Fin 7 → Vec F S1x1x128x512 .f32) : FVec F S4x128x512 .f32 :=
  (k0_pay70 (k0_pay67 (Q 1) (T 1) (Q 2) (T 2)) (k0_pay68 (Q 3)) (FloatOps.ofBits FTy.f32 0#32) (k0_pay69 (T 3)) (Q 4) (T 4) (Q 5) (T 5))

/-- The first layer's sums down a column two away. -/
def sum0_1 (Q : Fin 7 → Vec F S1x4x128x512 .f32) (T : Fin 7 → Vec F S1x1x128x512 .f32) : FVec F S4x128x512 .f32 :=
  (k0_pay75 (k0_pay73 (k0_pay71 (Q 1)) (k0_pay72 (T 1)) (FloatOps.ofBits FTy.f32 1077216499#32) (Q 2) (T 2) (Q 3) (T 3)) (k0_pay74 (Q 4)) (T 4) (Q 5) (T 5))

/-- The first layer's sum down a column three away. -/
def sum0_0 (Q : Fin 7 → Vec F S1x4x128x512 .f32) (T : Fin 7 → Vec F S1x1x128x512 .f32) : FVec F S4x128x512 .f32 :=
  (k0_pay76 (Q 3) (T 3))

/-- The first layer's leftmost two columns, added. -/
def sum0_h (Q : Fin 7 → Vec F S1x4x128x512 .f32) (T : Fin 7 → Vec F S1x1x128x512 .f32) : FVec F S4x128x384 .f32 :=
  (k0_pay77 (k0_pay73 (k0_pay71 (Q 1)) (k0_pay72 (T 1)) (FloatOps.ofBits FTy.f32 1077216499#32) (Q 2) (T 2) (Q 3) (T 3)) (k0_pay74 (Q 4)) (T 4) (Q 5) (T 5) (Q 3) (T 3))

/-- The second layer's sums down the column of the pixel. -/
def sum1_3 (Q : Fin 7 → Vec F S1x4x128x512 .f32) (T : Fin 7 → Vec F S1x1x128x512 .f32) : FVec F S4x128x512 .f32 :=
  (k0_pay107 (k0_pay105 (k0_pay102 (Q 0) (T 0) (Q 1) (T 1)) (k0_pay103 (Q 2)) (k0_pay104 (T 2)) (Q 3) (Q 4) (T 4)) (k0_pay106 (Q 5) (T 5)) (Q 6) (T 6))

/-- The second layer's sums down a column one away. -/
def sum1_2 (Q : Fin 7 → Vec F S1x4x128x512 .f32) (T : Fin 7 → Vec F S1x1x128x512 .f32) : FVec F S4x128x512 .f32 :=
  (k0_pay113 (k0_pay111 (k0_pay108 (Q 1) (T 1)) (k0_pay109 (Q 2)) (k0_pay110 (T 2)) (Q 3) (T 3) (Q 4) (T 4)) (k0_pay112 (Q 5)) (T 5))

/-- The second layer's sums down a column two away, less the last term. -/
def sum1_1 (Q : Fin 7 → Vec F S1x4x128x512 .f32) (T : Fin 7 → Vec F S1x1x128x512 .f32) : FVec F S4x128x512 .f32 :=
  (k0_pay115 (k0_pay114 (Q 1) (T 1) (Q 2) (T 2)) (Q 3) (T 3) (Q 4) (T 4))

/-- The last term of the second layer's sums down a column two away. -/
def sum1_l (Q : Fin 7 → Vec F S1x4x128x512 .f32) (T : Fin 7 → Vec F S1x1x128x512 .f32) : FVec F S4x128x512 .f32 :=
  (k0_pay116 (Q 5) (T 5))

/-- The first layer's picture. -/
def picture0 (Q : Fin 7 → Vec F S1x4x128x512 .f32) (T : Fin 7 → Vec F S1x1x128x512 .f32) : FVec F S3x128x384 .f32 :=
  k0_pay81 (sum0_3 Q T) (sum0_2 Q T) (sum0_1 Q T) (sum0_0 Q T) (sum0_h Q T)

/-- What the first layer lets through. -/
def through0 (Q : Fin 7 → Vec F S1x4x128x512 .f32) (T : Fin 7 → Vec F S1x1x128x512 .f32) : FVec F S128x384 .f32 :=
  k0_pay82 (sum0_3 Q T) (sum0_2 Q T) (sum0_1 Q T) (sum0_0 Q T) (sum0_h Q T)

/-- The picture of one block, both layers composited. -/
def picture (Q : Fin 2 → Fin 7 → Vec F S1x4x128x512 .f32) (T : Fin 2 → Fin 7 → Vec F S1x1x128x512 .f32) : FVec F S1x3x128x384 .f32 :=
  k0_pay6 (k0_pay117 (picture0 (Q 0) (T 0)) (through0 (Q 0) (T 0)) (sum1_3 (Q 1) (T 1)) (sum1_2 (Q 1) (T 1)) (sum1_1 (Q 1) (T 1)) (sum1_l (Q 1) (T 1))
    (Q 1 3) (T 1 3))

/-- The block rendered from window contents `d` writes one picture, of the fields of `d`. -/
theorem renderRun_out (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (v1 : Elt F .f32) (h4 : k0_cond4 i = 1#1) (d : Vec F S10x400x512 .f32) :
    (renderRun c i arg2 harg2 arg3 harg3 arg4 harg4 arg5 harg5 arg6 harg6 arg7 harg7 arg8 harg8 v1 h4 d).1
      = [⟨Rect.unit (s := S1x3x128x384) ![0, 0, 0, 0] S1x3x128x384.size inb_S1x3x128x384_S1x3x128x384_0_0_0_0,
          picture (fun li uo => quad v1 d (base i) li uo) (fun li uo => mark v1 d (base i) li uo)⟩] := by
  have v124 : renderRun.sl.v124 c i arg6 harg6 arg7 arg8 v1 h4 d = quad v1 d (base i) 0 0 := quad0_load c i arg6 harg6 arg7 arg8 v1 h4 d 0 _
  have v126 : renderRun.sl.v126 c i arg6 harg6 arg7 arg8 v1 h4 d = mark v1 d (base i) 0 0 := mark0_load c i arg6 harg6 arg7 arg8 v1 h4 d 0 _
  have v135 : renderRun.sl.v135 c i arg6 harg6 arg7 arg8 v1 h4 d = quad v1 d (base i) 0 1 := quad0_load c i arg6 harg6 arg7 arg8 v1 h4 d 1 _
  have v137 : renderRun.sl.v137 c i arg6 harg6 arg7 arg8 v1 h4 d = mark v1 d (base i) 0 1 := mark0_load c i arg6 harg6 arg7 arg8 v1 h4 d 1 _
  have v147 : renderRun.sl.v147 c i arg6 harg6 arg7 arg8 v1 h4 d = quad v1 d (base i) 0 2 := quad0_load c i arg6 harg6 arg7 arg8 v1 h4 d 2 _
  have v149 : renderRun.sl.v149 c i arg6 harg6 arg7 arg8 v1 h4 d = mark v1 d (base i) 0 2 := mark0_load c i arg6 harg6 arg7 arg8 v1 h4 d 2 _
  have v159 : renderRun.sl.v159 c i arg6 harg6 arg7 arg8 v1 h4 d = quad v1 d (base i) 0 3 := quad0_load c i arg6 harg6 arg7 arg8 v1 h4 d 3 _
  have v223 : renderRun.sl.v223 c i arg6 harg6 arg7 arg8 v1 h4 d = mark v1 d (base i) 0 3 := mark0_load c i arg6 harg6 arg7 arg8 v1 h4 d 3 _
  have v162 : renderRun.sl.v162 c i arg6 harg6 arg7 arg8 v1 h4 d = quad v1 d (base i) 0 4 := quad0_load c i arg6 harg6 arg7 arg8 v1 h4 d 4 _
  have v164 : renderRun.sl.v164 c i arg6 harg6 arg7 arg8 v1 h4 d = mark v1 d (base i) 0 4 := mark0_load c i arg6 harg6 arg7 arg8 v1 h4 d 4 _
  have v174 : renderRun.sl.v174 c i arg6 harg6 arg7 arg8 v1 h4 d = quad v1 d (base i) 0 5 := quad0_load c i arg6 harg6 arg7 arg8 v1 h4 d 5 _
  have v176 : renderRun.sl.v176 c i arg6 harg6 arg7 arg8 v1 h4 d = mark v1 d (base i) 0 5 := mark0_load c i arg6 harg6 arg7 arg8 v1 h4 d 5 _
  have v186 : renderRun.sl.v186 c i arg6 harg6 arg7 arg8 v1 h4 d = quad v1 d (base i) 0 6 := quad0_load c i arg6 harg6 arg7 arg8 v1 h4 d 6 _
  have v188 : renderRun.sl.v188 c i arg6 harg6 arg7 arg8 v1 h4 d = mark v1 d (base i) 0 6 := mark0_load c i arg6 harg6 arg7 arg8 v1 h4 d 6 _
  have v463 : renderRun.sl.v463 c i arg6 harg6 arg7 arg8 v1 h4 d = quad v1 d (base i) 1 0 := quad1_load c i arg6 harg6 arg7 arg8 v1 h4 d 0 _
  have v465 : renderRun.sl.v465 c i arg6 harg6 arg7 arg8 v1 h4 d = mark v1 d (base i) 1 0 := mark1_load c i arg6 harg6 arg7 arg8 v1 h4 d 0 _
  have v474 : renderRun.sl.v474 c i arg6 harg6 arg7 arg8 v1 h4 d = quad v1 d (base i) 1 1 := quad1_load c i arg6 harg6 arg7 arg8 v1 h4 d 1 _
  have v476 : renderRun.sl.v476 c i arg6 harg6 arg7 arg8 v1 h4 d = mark v1 d (base i) 1 1 := mark1_load c i arg6 harg6 arg7 arg8 v1 h4 d 1 _
  have v486 : renderRun.sl.v486 c i arg6 harg6 arg7 arg8 v1 h4 d = quad v1 d (base i) 1 2 := quad1_load c i arg6 harg6 arg7 arg8 v1 h4 d 2 _
  have v488 : renderRun.sl.v488 c i arg6 harg6 arg7 arg8 v1 h4 d = mark v1 d (base i) 1 2 := mark1_load c i arg6 harg6 arg7 arg8 v1 h4 d 2 _
  have v498 : renderRun.sl.v498 c i arg6 harg6 arg7 arg8 v1 h4 d = quad v1 d (base i) 1 3 := quad1_load c i arg6 harg6 arg7 arg8 v1 h4 d 3 _
  have v562 : renderRun.sl.v562 c i arg6 harg6 arg7 arg8 v1 h4 d = mark v1 d (base i) 1 3 := mark1_load c i arg6 harg6 arg7 arg8 v1 h4 d 3 _
  have v501 : renderRun.sl.v501 c i arg6 harg6 arg7 arg8 v1 h4 d = quad v1 d (base i) 1 4 := quad1_load c i arg6 harg6 arg7 arg8 v1 h4 d 4 _
  have v503 : renderRun.sl.v503 c i arg6 harg6 arg7 arg8 v1 h4 d = mark v1 d (base i) 1 4 := mark1_load c i arg6 harg6 arg7 arg8 v1 h4 d 4 _
  have v513 : renderRun.sl.v513 c i arg6 harg6 arg7 arg8 v1 h4 d = quad v1 d (base i) 1 5 := quad1_load c i arg6 harg6 arg7 arg8 v1 h4 d 5 _
  have v515 : renderRun.sl.v515 c i arg6 harg6 arg7 arg8 v1 h4 d = mark v1 d (base i) 1 5 := mark1_load c i arg6 harg6 arg7 arg8 v1 h4 d 5 _
  have v525 : renderRun.sl.v525 c i arg6 harg6 arg7 arg8 v1 h4 d = quad v1 d (base i) 1 6 := quad1_load c i arg6 harg6 arg7 arg8 v1 h4 d 6 _
  have v527 : renderRun.sl.v527 c i arg6 harg6 arg7 arg8 v1 h4 d = mark v1 d (base i) 1 6 := mark1_load c i arg6 harg6 arg7 arg8 v1 h4 d 6 _
  unfold renderRun picture picture0 through0 sum0_3 sum0_2 sum0_1 sum0_0 sum0_h sum1_3 sum1_2 sum1_1 sum1_l
  dsimp only
  simp only [renderRun.sl.r_9, renderRun.sl.r_10, renderRun.sl.r_11, renderRun.sl.r_12, renderRun.sl.r_13, renderRun.sl.r_14, renderRun.sl.r_15, renderRun.sl.r_16, renderRun.sl.r_17, renderRun.sl.r_18, renderRun.sl.r_19, renderRun.sl.r_20, renderRun.sl.r_21, renderRun.sl.r_22, renderRun.sl.r_23, renderRun.sl.r_24, renderRun.sl.r_25, renderRun.sl.r_26, renderRun.sl.r_33, renderRun.sl.r_34, renderRun.sl.r_35, renderRun.sl.r_36, renderRun.sl.r_37, renderRun.sl.r_38, renderRun.sl.r_39, renderRun.sl.r_40, renderRun.sl.r_41, renderRun.sl.r_42, renderRun.sl.r_43, renderRun.sl.r_44, renderRun.sl.r_45, renderRun.sl.r_46, renderRun.sl.r_47, renderRun.sl.r_48, v124, v135, v147, v159, v162, v174, v186, v126, v137, v149, v223, v164, v176, v188, v463, v474, v486, v498, v501, v513, v525, v465, v476, v488, v562, v503, v515, v527]
  rfl

end Cert.KernelIdeal.Disk

end
-- ==== Proof.Steps.lean ====
module

public import proofs.«01_k».proof.Proof.Picture
public import Idealize.ShloMosaic.Lib.Pipeline.Value
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where each stretch runs -/

theorem fills_iff : ∀ i : grid0.Coords, k0_cond1 i = 1#1 ↔ (i 1).val < 3 := by decide +kernel
theorem isTop_iff : ∀ i : grid0.Coords, isTop i ↔ (i 1).val = 0 := by decide +kernel
theorem isBot_iff : ∀ i : grid0.Coords, isBot i ↔ (i 1).val = 2 := by decide +kernel
theorem renders_iff : ∀ i : grid0.Coords, k0_cond4 i = 1#1 ↔ (i 1).val ≠ 0 := by decide +kernel
theorem off1_eq : ∀ i : grid0.Coords, k0_off1 i = ![(i 0).val] := by decide +kernel

/-! ## Only the rows read matter -/

/-- The fields depend on the rows they are read at. -/
theorem fields_congr {G d : Vec F S10x400x512 .f32} {lo hi : ℕ} (h : Rows G lo hi d) (le : F .f32) (li : Fin 2) (q : Fin 5) {row : ℕ}
    (h1 : lo ≤ row) (h2 : row < hi) (h3 : row < 400) (k : Fin 512) : fields le d li q row k = fields le G li q row k := by
  unfold fields
  refine congrArg (fun w => tap le w q) (funext fun c => h _ ?_ ?_)
  · rw [rowAt_of_lt h3]; exact h1
  · rw [rowAt_of_lt h3]; exact h2

theorem quad_congr {G d : Vec F S10x400x512 .f32} {lo hi R : ℕ} (h : Rows G lo hi d) (h1 : lo ≤ R + 5) (h2 : R + 139 ≤ hi) (h3 : R + 139 ≤ 400)
    (le : F .f32) (li : Fin 2) (uo : Fin 7) : quad le d R li uo = quad le G R li uo := funext fun j => by
  have hj : (j 2).val < 128 := (j 2).isLt
  exact fields_congr h le li _ (by omega) (by omega) (by omega) _

theorem mark_congr {G d : Vec F S10x400x512 .f32} {lo hi R : ℕ} (h : Rows G lo hi d) (h1 : lo ≤ R + 5) (h2 : R + 139 ≤ hi) (h3 : R + 139 ≤ 400)
    (le : F .f32) (li : Fin 2) (uo : Fin 7) : mark le d R li uo = mark le G R li uo := funext fun j => by
  have hj : (j 2).val < 128 := (j 2).isLt
  exact fields_congr h le li _ (by omega) (by omega) (by omega) _

/-- The picture of the 128 rows that start at image row `R`, from the padded image. -/
def shown (le : F .f32) (G : Vec F S10x400x512 .f32) (R : ℕ) : Vec F S1x3x128x384 .f32 :=
  picture (fun li uo => quad le G R li uo) (fun li uo => mark le G R li uo)

theorem shown_congr {G d : Vec F S10x400x512 .f32} {lo hi R : ℕ} (h : Rows G lo hi d) (h1 : lo ≤ R + 5) (h2 : R + 139 ≤ hi) (h3 : R + 139 ≤ 400)
    (le : F .f32) : shown le d R = shown le G R := by
  unfold shown
  rw [funext fun li => funext fun uo => quad_congr h h1 h2 h3 le li uo, funext fun li => funext fun uo => mark_congr h h1 h2 h3 le li uo]

/-! ## The stretches, one after another -/

/-- The first padded row a step has not yet filled. -/
def filled (s : ℕ) : ℕ := if s < 3 then 128 * s + 8 else 395

/-- Before step `s` of a batch, everything above its block is in the window scratch; before step 0, nothing need be. -/
def Good (G : Vec F S10x400x512 .f32) (s : ℕ) (d : Vec F S10x400x512 .f32) : Prop := s ≠ 0 → Rows G 5 (filled s) d

/-- Nothing is owned but what a whole buffer's points-to reads. -/
theorem owns_of_writes {c : Dev nD} (arg6 : Memref sig .tc .vmem S10x400x512 .f32) {P : Vec F S10x400x512 .f32 → Prop} (f : arg6.view.ty.Contents (Elt F))
    (h : P (arg6.view.read (Elt F) f)) :
    (arg6.view.loc (c : Thread nD τ) ↦[arg6.view.set]{fullShare} f : sProp 𝕄) ⊢ iprop(∃ d, ⌜P d⌝ ∗ owns (c : Thread nD τ) arg6 fullShare d) := by
  iintro H
  iexists arg6.view.read (Elt F) f
  isplitr; · ipureintro; exact h
  unfold owns; iexists _; isplitr
  swap; · iexact H
  ipureintro; rfl

section steps

variable (c : Dev nD) (i : grid0.Coords) (arg2 : Memref sig .tc .smem S2 .f32) (harg2 : arg2.IsWhole) (arg3 : Memref sig .tc .vmem S1x10x128x384 .f32) (harg3 : arg3.IsWhole) (arg4 : Memref sig .tc .vmem S1x10x128x384 .f32) (harg4 : arg4.IsWhole) (arg5 : Memref sig .tc .vmem S1x3x128x384 .f32) (harg5 : arg5.IsWhole) (arg6 : Memref sig .tc .vmem S10x400x512 .f32) (harg6 : arg6.IsWhole) (arg7 : Memref sig .tc .vmem S5x144x512 .f32) (harg7 : arg7.IsWhole) (arg8 : Memref sig .tc .vmem S7x5x128x512 .f32) (harg8 : arg8.IsWhole) (x1 x2 : Vec F S1x10x128x384 .f32) (xs0 : Vec F S10x400x512 .f32)
variable {X Y : Vec F S2x10x384x384 .f32} {b : Fin 2}

include harg2 in
/-- The step's element of the lens array is read. -/
theorem lens_step (x0 : Vec F S2 .f32) (E : Set ℕ) (K : Elt F .f32 → sProp 𝕄) :
    iprop(owns (c : Thread nD τ) arg2 fullShare x0 ∗ (owns (c : Thread nD τ) arg2 fullShare x0 -∗ K (x0 (ix1 (i 0)))))
      ⊢ wp frame (wpE (defs₀ (F := F)) Variants.none c none) E
        (smemLoad arg2 (Rect.unit (s := S2) (k0_off1 i) S1.size (k0_off1_inb i)) numel1_S1 rfl) K := by
  unfold owns
  iintro ⟨⟨%f0, %hf0, H0⟩, Hk⟩
  obtain rfl := harg2.eq_unread hf0
  sl_exec
  sl_step
  have e : arg2.view.readAt (Elt F) (Rect.unit (s := S2) (k0_off1 i) S1.size (k0_off1_inb i)).toLoadRect (harg2.unread x0)
      (Shape.Idx.first (Nat.lt_of_lt_of_eq Nat.one_pos numel1_S1.symm)) = x0 (ix1 (i 0)) := by
    rw [harg2.readAt_unread]; congr 1; funext a; fin_cases a; apply Fin.ext; simp [LoadRect.idx, off1_eq, Shape.Idx.first]
  rw [← e]
  iapply Hk
  iexists _; isplitr
  swap; · iexact H0
  ipureintro; exact hf0

/-- The step's block is filled where there is one. -/
theorem fill_step (hx : (i 1).val < 3 → Holds X b (i 1).val x1) (hy : (i 1).val < 3 → Holds Y b (i 1).val x2) (hg : Good (padded X Y b) (i 1).val xs0)
    (E : Set ℕ) (K : PUnit → sProp 𝕄) :
    iprop(owns (c : Thread nD τ) arg3 fullShare x1 ∗ owns (c : Thread nD τ) arg4 fullShare x2 ∗ owns (c : Thread nD τ) arg6 fullShare xs0
        ∗ (iprop(owns (c : Thread nD τ) arg3 fullShare x1 ∗ owns (c : Thread nD τ) arg4 fullShare x2
            ∗ (∃ d, ⌜Rows (padded X Y b) (if (i 1).val = 0 then 8 else 5) (if (i 1).val < 3 then 128 * (i 1).val + 136 else 395) d⌝
                ∗ owns (c : Thread nD τ) arg6 fullShare d)) -∗ K ⟨⟩))
      ⊢ wp frame (wpE (defs₀ (F := F)) Variants.none c none) E
        (if h : k0_cond1 i = 1#1 then fillProg i arg2 harg2 arg3 harg3 arg4 harg4 arg5 harg5 arg6 harg6 arg7 harg7 arg8 harg8 h else pure ⟨⟩) K := by
  by_cases hs : (i 1).val < 3
  · have h1 := (fills_iff i).mpr hs
    rw [dif_pos h1]
    iintro ⟨H1, H2, H6, Hk⟩
    iapply (fillRun c i arg2 harg2 arg3 harg3 arg4 harg4 arg5 harg5 arg6 harg6 arg7 harg7 arg8 harg8 h1 x1 x2 xs0).2 E K
    isplitl [H1]; · iexact H1
    isplitl [H2]; · iexact H2
    isplitl [H6]; · iexact H6
    iintro ⟨H1, H2, H6⟩
    iapply Hk
    isplitl [H1]; · iexact H1
    isplitl [H2]; · iexact H2
    iapply (owns_of_writes (c := c) arg6 _ ?_) $$ H6
    intro y hlo hhi
    refine fillRun_rows c i arg2 harg2 arg3 harg3 arg4 harg4 arg5 harg5 arg6 harg6 arg7 harg7 arg8 harg8 x1 x2 xs0 h1 (hx hs) (hy hs) hs y ?_
    rw [if_pos hs] at hhi
    by_cases hr : 128 * (i 1).val + 8 ≤ (y 1).val
    · exact .inr ⟨hr, by omega⟩
    · refine .inl ?_
      by_cases h0 : (i 1).val = 0
      · rw [if_pos h0] at hlo; omega
      · rw [if_neg h0] at hlo
        exact hg h0 y hlo (by unfold filled; rw [if_pos hs]; omega)
  · rw [dif_neg fun h => hs ((fills_iff i).mp h)]
    iintro ⟨H1, H2, H6, Hk⟩
    sl_step
    iapply Hk
    isplitl [H1]; · iexact H1
    isplitl [H2]; · iexact H2
    iexists xs0
    isplitr
    · ipureintro
      have h0 : (i 1).val ≠ 0 := by omega
      rw [if_neg h0, if_neg hs]
      have := hg h0
      unfold filled at this
      rwa [if_neg hs] at this
    iexact H6

/-- A batch's first step adds the rows above the image. -/
theorem top_step (hx : (i 1).val = 0 → Holds X b 0 x1) (hy : (i 1).val = 0 → Holds Y b 0 x2) {hi : ℕ} (hhi : 8 ≤ hi)
    (hg : Rows (padded X Y b) (if (i 1).val = 0 then 8 else 5) hi xs0) (E : Set ℕ) (K : PUnit → sProp 𝕄) :
    iprop(owns (c : Thread nD τ) arg3 fullShare x1 ∗ owns (c : Thread nD τ) arg4 fullShare x2 ∗ owns (c : Thread nD τ) arg6 fullShare xs0
        ∗ (iprop(owns (c : Thread nD τ) arg3 fullShare x1 ∗ owns (c : Thread nD τ) arg4 fullShare x2
            ∗ (∃ d, ⌜Rows (padded X Y b) 5 hi d⌝ ∗ owns (c : Thread nD τ) arg6 fullShare d)) -∗ K ⟨⟩))
      ⊢ wp frame (wpE (defs₀ (F := F)) Variants.none c none) E
        (if isTop i then topProg i arg2 harg2 arg3 harg3 arg4 harg4 arg5 harg5 arg6 harg6 arg7 harg7 arg8 harg8 else pure ⟨⟩) K := by
  by_cases hs : (i 1).val = 0
  · rw [if_pos hs] at hg
    rw [if_pos ((isTop_iff i).mpr hs)]
    iintro ⟨H1, H2, H6, Hk⟩
    iapply (topRun c i arg2 harg2 arg3 harg3 arg4 harg4 arg5 harg5 arg6 harg6 arg7 harg7 arg8 harg8 x1 x2 xs0).2 E K
    isplitl [H1]; · iexact H1
    isplitl [H2]; · iexact H2
    isplitl [H6]; · iexact H6
    iintro ⟨H1, H2, H6⟩
    iapply Hk
    isplitl [H1]; · iexact H1
    isplitl [H2]; · iexact H2
    iapply (owns_of_writes (c := c) arg6 _ ?_) $$ H6
    intro y h1 h2
    refine topRun_rows c i arg2 harg2 arg3 harg3 arg4 harg4 arg5 harg5 arg6 harg6 arg7 harg7 arg8 harg8 x1 x2 xs0 (hx hs) (hy hs) y ?_
    by_cases hr : 8 ≤ (y 1).val
    · exact .inl (hg y hr h2)
    · exact .inr ⟨h1, by omega⟩
  · rw [if_neg hs] at hg
    rw [if_neg fun h => hs ((isTop_iff i).mp h)]
    iintro ⟨H1, H2, H6, Hk⟩
    sl_step
    iapply Hk
    isplitl [H1]; · iexact H1
    isplitl [H2]; · iexact H2
    iexists xs0
    isplitr; · ipureintro; exact hg
    iexact H6

/-- A batch's last block adds the rows below the image. -/
theorem bot_step (hx : (i 1).val = 2 → Holds X b 2 x1) (hy : (i 1).val = 2 → Holds Y b 2 x2)
    (hg : Rows (padded X Y b) 5 (if (i 1).val < 3 then 128 * (i 1).val + 136 else 395) xs0) (E : Set ℕ) (K : PUnit → sProp 𝕄) :
    iprop(owns (c : Thread nD τ) arg3 fullShare x1 ∗ owns (c : Thread nD τ) arg4 fullShare x2 ∗ owns (c : Thread nD τ) arg6 fullShare xs0
        ∗ (iprop(owns (c : Thread nD τ) arg3 fullShare x1 ∗ owns (c : Thread nD τ) arg4 fullShare x2
            ∗ (∃ d, ⌜Rows (padded X Y b) 5 (filled ((i 1).val + 1)) d⌝ ∗ owns (c : Thread nD τ) arg6 fullShare d)) -∗ K ⟨⟩))
      ⊢ wp frame (wpE (defs₀ (F := F)) Variants.none c none) E
        (if isBot i then botProg i arg2 harg2 arg3 harg3 arg4 harg4 arg5 harg5 arg6 harg6 arg7 harg7 arg8 harg8 else pure ⟨⟩) K := by
  by_cases hs : (i 1).val = 2
  · rw [if_pos (by omega)] at hg
    rw [if_pos ((isBot_iff i).mpr hs)]
    iintro ⟨H1, H2, H6, Hk⟩
    iapply (botRun c i arg2 harg2 arg3 harg3 arg4 harg4 arg5 harg5 arg6 harg6 arg7 harg7 arg8 harg8 x1 x2 xs0).2 E K
    isplitl [H1]; · iexact H1
    isplitl [H2]; · iexact H2
    isplitl [H6]; · iexact H6
    iintro ⟨H1, H2, H6⟩
    iapply Hk
    isplitl [H1]; · iexact H1
    isplitl [H2]; · iexact H2
    iapply (owns_of_writes (c := c) arg6 _ ?_) $$ H6
    intro y h1 h2
    refine botRun_rows c i arg2 harg2 arg3 harg3 arg4 harg4 arg5 harg5 arg6 harg6 arg7 harg7 arg8 harg8 x1 x2 xs0 (hx hs) (hy hs) y ?_
    unfold filled at h2
    rw [if_neg (by omega)] at h2
    by_cases hr : (y 1).val < 392
    · exact .inl (hg y h1 (by omega))
    · exact .inr ⟨by omega, by omega⟩
  · rw [if_neg fun h => hs ((isBot_iff i).mp h)]
    iintro ⟨H1, H2, H6, Hk⟩
    sl_step
    iapply Hk
    isplitl [H1]; · iexact H1
    isplitl [H2]; · iexact H2
    iexists xs0
    isplitr
    · ipureintro
      intro y h1 h2
      refine hg y h1 ?_
      have h4 : (i 1).val < 4 := (i 1).isLt
      unfold filled at h2
      split_ifs at h2 ⊢ <;> omega
    iexact H6

/-- Every step but a batch's first renders the block before it; the first leaves the output buffer as it was. -/
theorem render_step (le : F .f32) (x3 : Vec F S1x3x128x384 .f32) (hg : Rows (padded X Y b) 5 (filled ((i 1).val + 1)) xs0) (E : Set ℕ) (K : PUnit → sProp 𝕄) :
    iprop(owns (c : Thread nD τ) arg5 fullShare x3 ∗ owns (c : Thread nD τ) arg6 fullShare xs0
        ∗ (∃ d, owns (c : Thread nD τ) arg7 fullShare d) ∗ (∃ d, owns (c : Thread nD τ) arg8 fullShare d)
        ∗ (iprop(owns (c : Thread nD τ) arg5 fullShare (if (i 1).val = 0 then x3 else shown le (padded X Y b) (base i))
            ∗ owns (c : Thread nD τ) arg6 fullShare xs0
            ∗ (∃ d, owns (c : Thread nD τ) arg7 fullShare d) ∗ (∃ d, owns (c : Thread nD τ) arg8 fullShare d)) -∗ K ⟨⟩))
      ⊢ wp frame (wpE (defs₀ (F := F)) Variants.none c none) E
        (if h : k0_cond4 i = 1#1 then renderProg i arg2 harg2 arg3 harg3 arg4 harg4 arg5 harg5 arg6 harg6 arg7 harg7 arg8 harg8 le h else pure ⟨⟩) K := by
  by_cases hs : (i 1).val = 0
  · rw [dif_neg fun h => (renders_iff i).mp h hs, if_pos hs]
    iintro ⟨H5, H6, H7, H8, Hk⟩
    sl_step
    iapply Hk
    isplitl [H5]; · iexact H5
    isplitl [H6]; · iexact H6
    isplitl [H7]; · iexact H7
    iexact H8
  · have h4 := (renders_iff i).mpr hs
    rw [dif_pos h4, if_neg hs]
    iintro ⟨H5, H6, H7, H8, Hk⟩
    iapply (renderRun c i arg2 harg2 arg3 harg3 arg4 harg4 arg5 harg5 arg6 harg6 arg7 harg7 arg8 harg8 le h4 xs0).2.2.2 E K
    isplitl [H5]; · iexists _; iexact H5
    isplitl [H6]; · iexact H6
    isplitl [H7]; · iexact H7
    isplitl [H8]; · iexact H8
    iintro ⟨⟨%f5, H5⟩, H6, ⟨%f7, H7⟩, ⟨%f8, H8⟩⟩
    iapply Hk
    isplitl [H5]
    · unfold owns; iexists _; isplitr
      swap; · iexact H5
      ipureintro
      have hlt : (i 1).val < 4 := (i 1).isLt
      rw [renderRun_out, View.read_writes_eq_canon]
      · rw [View.canon_unit_zero (by funext a; fin_cases a <;> rfl)]
        refine shown_congr hg (by omega) ?_ ?_ le
        · unfold base filled; split_ifs <;> omega
        · unfold base; omega
      · exact fun y => ⟨_, List.mem_singleton_self _, View.mem_set_unit_zero (by funext a; fin_cases a <;> rfl) inb_S1x3x128x384_S1x3x128x384_0_0_0_0 y⟩
    isplitl [H6]; · iexact H6
    isplitl [H7]
    · iexists _; unfold owns; iexists _; isplitr
      swap; · iexact H7
      ipureintro; rfl
    iexists _; unfold owns; iexists _; isplitr
    swap; · iexact H8
    ipureintro; rfl

/-- One step: with the batch's rows above its block in the window scratch, it leaves the next step's there, and the
    output buffer holds the block it rendered, or at a batch's first step what it held. -/
theorem body_step (x0 : Vec F S2 .f32) (x3 : Vec F S1x3x128x384 .f32) (hx : (i 1).val < 3 → Holds X b (i 1).val x1) (hy : (i 1).val < 3 → Holds Y b (i 1).val x2)
    (hg : Good (padded X Y b) (i 1).val xs0) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs0
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (if (i 1).val = 0 then x3 else shown (x0 (ix1 (i 0))) (padded X Y b) (base i))
            ∗ (∃ d, ⌜Rows (padded X Y b) 5 (filled ((i 1).val + 1)) d⌝ ∗ owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) E
        (cc0__render_kernel i arg2 harg2 arg3 harg3 arg4 harg4 arg5 harg5 arg6 harg6 arg7 harg7 arg8 harg8) K := by
  rw [body_eq, wp_bind]
  iintro ⟨H2, H3, H4, H5, H6, H7, H8, Hk⟩
  iapply lens_step c i arg2 harg2 x0 E _
  isplitl [H2]; · iexact H2
  iintro H2
  rw [wp_bind]
  iapply fill_step c i arg2 harg2 arg3 harg3 arg4 harg4 arg5 harg5 arg6 harg6 arg7 harg7 arg8 harg8 x1 x2 xs0 hx hy hg E _
  isplitl [H3]; · iexact H3
  isplitl [H4]; · iexact H4
  isplitl [H6]; · iexact H6
  iintro ⟨H3, H4, ⟨%d1, %hd1, H6⟩⟩
  rw [wp_bind]
  iapply top_step c i arg2 harg2 arg3 harg3 arg4 harg4 arg5 harg5 arg6 harg6 arg7 harg7 arg8 harg8 x1 x2 d1 (fun h => h ▸ hx (by omega)) (fun h => h ▸ hy (by omega)) (by split_ifs <;> omega) hd1 E _
  isplitl [H3]; · iexact H3
  isplitl [H4]; · iexact H4
  isplitl [H6]; · iexact H6
  iintro ⟨H3, H4, ⟨%d2, %hd2, H6⟩⟩
  rw [wp_bind]
  iapply bot_step c i arg2 harg2 arg3 harg3 arg4 harg4 arg5 harg5 arg6 harg6 arg7 harg7 arg8 harg8 x1 x2 d2 (fun h => h ▸ hx (by omega)) (fun h => h ▸ hy (by omega)) hd2 E _
  isplitl [H3]; · iexact H3
  isplitl [H4]; · iexact H4
  isplitl [H6]; · iexact H6
  iintro ⟨H3, H4, ⟨%d3, %hd3, H6⟩⟩
  iapply render_step c i arg2 harg2 arg3 harg3 arg4 harg4 arg5 harg5 arg6 harg6 arg7 harg7 arg8 harg8 d3 (x0 (ix1 (i 0))) x3 hd3 E K
  isplitl [H5]; · iexact H5
  isplitl [H6]; · iexact H6
  isplitl [H7]; · iexact H7
  isplitl [H8]; · iexact H8
  iintro ⟨H5, H6, H7, H8⟩
  iapply Hk
  isplitl [H2]; · iexact H2
  isplitl [H3]; · iexact H3
  isplitl [H4]; · iexact H4
  isplitl [H5]; · iexact H5
  isplitl [H6]
  · iexists d3
    isplitr; · ipureintro; exact hd3
    iexact H6
  isplitl [H7]; · iexact H7
  iexact H8

end steps

end Cert.KernelIdeal.Disk

end
-- ==== Proof.Launched.lean ====
module

public import proofs.«01_k».proof.Proof.Steps
public import Idealize.ShloMosaic.Lib.Pipeline.ValueKit
public import Idealize.ShloMosaic.Lib.Claim
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.Lib.WholeRead

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Point `t` is step `t % 4` of batch `t / 4`. -/
theorem coord0 : ∀ t : Fin cfg0.N, (grid0.coords t 0).val = t.val / 4 := (by decide +kernel : ∀ t : Fin grid0.N, _)
theorem coord1 : ∀ t : Fin cfg0.N, (grid0.coords t 1).val = t.val % 4 := (by decide +kernel : ∀ t : Fin grid0.N, _)

/-- Where each window's block stands at a point. -/
theorem places : ∀ t : Fin cfg0.N, win0_0.index t = ![0] ∧ win0_1.index t = ![t.val / 4, 0, min (t.val % 4) 2, 0]
    ∧ win0_2.index t = ![t.val / 4, 0, min (t.val % 4) 2, 0] ∧ win0_3.index t = ![t.val / 4, 0, t.val % 4 - 1, 0] :=
  (by decide +kernel : ∀ t : Fin grid0.N, _)

/-- The result's block is stored at every point but a batch's first, -/
theorem idle_iff : ∀ t : Fin cfg0.N, cfg0.idle 3 (cfg0.grid.coords t) = decide (t.val % 4 = 0) := (by decide +kernel : ∀ t : Fin grid0.N, idle0 3 (grid0.coords t) = decide (t.val % 4 = 0))
/-- and written back there. -/
theorem flush_iff : ∀ t : Fin cfg0.N, (cfg0.win 3).flush t = decide (t.val % 4 ≠ 0) := (by decide +kernel : ∀ t : Fin grid0.N, win0_3.flush t = decide (t.val % 4 ≠ 0))

/-- The batch of position `n`. -/
def batch (n : ℕ) : Fin 2 := ⟨n / 4 % 2, Nat.mod_lt _ (by decide)⟩

/-- The image and the focal plane the region finds, and the padded difference of a position's batch. -/
def image (c : Dev nD) : Vec F S2x10x384x384 .f32 := m ((c : Thread nD τ).loc main_arg0)
def plane (c : Dev nD) : Vec F S2x10x384x384 .f32 := m ((c : Thread nD τ).loc main_arg2)
def field (c : Dev nD) (b : Fin 2) : Vec F S10x400x512 .f32 := padded (image m c) (plane m c) b

/-- At a step that fills, the two staged blocks are the batch's block of the image and of the focal plane. -/
theorem holds_image (c : Dev nD) (t : Fin cfg0.N) (h : (grid0.coords t 1).val < 3) :
    Holds (image m c) (batch t.val) (grid0.coords t 1).val (iblk m c 1 t) := by
  intro ch r w R hR
  have hN : t.val < 8 := lt_of_lt_of_eq t.isLt N_0
  rw [coord1] at h hR
  have hb : (batch t.val).val = t.val / 4 := Nat.mod_eq_of_lt (by omega)
  unfold image
  generalize batch t.val = b at hb
  blk_ext! [iblk, V, places t]

theorem holds_plane (c : Dev nD) (t : Fin cfg0.N) (h : (grid0.coords t 1).val < 3) :
    Holds (plane m c) (batch t.val) (grid0.coords t 1).val (iblk m c 2 t) := by
  intro ch r w R hR
  have hN : t.val < 8 := lt_of_lt_of_eq t.isLt N_0
  rw [coord1] at h hR
  have hb : (batch t.val).val = t.val / 4 := Nat.mod_eq_of_lt (by omega)
  unfold plane
  generalize batch t.val = b at hb
  blk_ext! [iblk, V, places t]

/-! ## The proof data -/

/-- What a point leaves in the result's staging buffer, where it stores one. -/
def left (c : Dev nD) (t : Fin cfg0.N) : Vec F S1x3x128x384 .f32 :=
  shown (iblk m c 0 t (ix1 (grid0.coords t 0))) (field m c (batch t.val)) (base (grid0.coords t))

abbrev scM0_0 : Memref sig .tc .vmem S10x400x512 .f32 := Memref.whole cc0_scratch0
abbrev scM0_1 : Memref sig .tc .vmem S5x144x512 .f32 := Memref.whole cc0_scratch1
abbrev scM0_2 : Memref sig .tc .vmem S7x5x128x512 .f32 := Memref.whole cc0_scratch2

/-- Before position `n`: the window scratch holds its batch's rows down to the step's block; the rest is at anything. -/
def between (c : Dev nD) (n : ℕ) : sProp 𝕄 :=
  iprop((∃ d, ⌜Good (field m c (batch n)) (n % 4) d⌝ ∗ owns (c : Thread nD τ) scM0_0 fullShare d)
    ∗ (∃ d, owns (c : Thread nD τ) scM0_1 fullShare d) ∗ (∃ d, owns (c : Thread nD τ) scM0_2 fullShare d) ∗ (∃ r, prngReg c r))

/-- The pipeline's proof data: the inputs' buffers stay as fetched, the result's holds `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ t := between m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = left m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the launch hands over, with the three scratches owned at some contents. -/
theorem handed_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A step takes the invariant to the next. -/
theorem good_next (c : Dev nD) (t : Fin cfg0.N) (d : Vec F S10x400x512 .f32)
    (h : Rows (field m c (batch t.val)) 5 (filled ((grid0.coords t 1).val + 1)) d) : Good (field m c (batch (t.val + 1))) ((t.val + 1) % 4) d := by
  intro h0
  rw [coord1] at h
  have hb : batch (t.val + 1) = batch t.val := Fin.ext (by unfold batch; dsimp only; omega)
  rw [hb, show (t.val + 1) % 4 = t.val % 4 + 1 by omega]
  exact h

/-! ## The body at a point -/

/-- The body's triple at a point, over any contents of the result's buffer. -/
theorem sound_point (c : Dev nD) (t : Fin cfg0.N) (x3 : Vec F S1x3x128x384 .f32) (K : PUnit → sProp 𝕄) :
    iprop(between m c t.val ∗ owns (c : Thread nD τ) (win0_0.stage (cfg0.slots t 0)) fullShare (iblk m c 0 t) ∗ owns (c : Thread nD τ) (win0_1.stage (cfg0.slots t 1)) fullShare (iblk m c 1 t)
        ∗ owns (c : Thread nD τ) (win0_2.stage (cfg0.slots t 2)) fullShare (iblk m c 2 t) ∗ owns (c : Thread nD τ) (win0_3.stage (cfg0.slots t 3)) fullShare x3
        ∗ (iprop(between m c (t.val + 1) ∗ owns (c : Thread nD τ) (win0_0.stage (cfg0.slots t 0)) fullShare (iblk m c 0 t) ∗ owns (c : Thread nD τ) (win0_1.stage (cfg0.slots t 1)) fullShare (iblk m c 1 t)
            ∗ owns (c : Thread nD τ) (win0_2.stage (cfg0.slots t 2)) fullShare (iblk m c 2 t)
            ∗ owns (c : Thread nD τ) (win0_3.stage (cfg0.slots t 3)) fullShare (if (grid0.coords t 1).val = 0 then x3 else left m c t)) -∗ K ⟨⟩))
      ⊢ wp frame (wpE (defs₀ (F := F)) Variants.none c none) Set.univ (bodyAt0 t) K := by
  unfold between
  iintro ⟨⟨⟨%d0, %hd0, HS0⟩, HS1, HS2, Hg⟩, H0, H1, H2, H3, Hk⟩
  iapply body_step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (iblk m c 1 t) (iblk m c 2 t) d0 (iblk m c 0 t) x3 (holds_image m c t) (holds_plane m c t) (by rw [coord1]; exact hd0) Set.univ K
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%d1, %hd1, HS0⟩, HS1, HS2⟩
  iapply Hk
  isplitl [HS0 HS1 HS2 Hg]
  · isplitl [HS0]
    · iexists d1
      isplitr; · ipureintro; exact good_next m c t d1 hd1
      iexact HS0
    isplitl [HS1]; · iexact HS1
    isplitl [HS2]; · iexact HS2
    iexact Hg
  isplitl [H0]; · iexact H0
  isplitl [H1]; · iexact H1
  isplitl [H2]; · iexact H2
  iexact H3

/-- What the body finds at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it leaves there. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t)

/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl, after0_0, after0_1, after0_2,
    show (dats m 0 c).Φ t.succ = between m c (t.val + 1) from rfl, show (dats m 0 c).Φ t.castSucc = between m c t.val from rfl]
  iintro ⟨HΦ, Ho, ⟨%d0, H0⟩, ⟨%d1, H1⟩, ⟨%d2, H2⟩, ⟨%d3, H3⟩⟩
  iapply sound_point m c t _ _
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  isplitl [H0]; · iexact H0
  isplitl [H1]; · iexact H1
  isplitl [H2]; · iexact H2
  by_cases h0 : t.val % 4 = 0
  · rw [if_pos (by rw [coord1]; exact h0), (dats m 0 c).leavesExact_idle 3 t (by rw [idle_iff]; exact decide_eq_true h0) (by rw [flush_iff]; exact decide_eq_false (not_not.mpr h0))]
    iexists d3
    iexact H3
  · rw [if_neg (by rw [coord1]; exact h0)]
    unfold Dat.leavesExact
    rw [show cfg0.idle 3 (cfg0.grid.coords t) = false by rw [idle_iff]; exact decide_eq_false h0, after0_3]
    iexact H3

/-- The library's body obligation. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-- Before the first point nothing is asked of the scratches, -/
theorem hin (c : Dev nD) : Pipeline.ΦA spec0 c ⊢ (dats m 0 c).Φ 0 := by
  rw [show (dats m 0 c).Φ 0 = between m c 0 from rfl, handed_eq]
  unfold between
  iintro ⟨⟨⟨%d, HS0⟩, HS1, HS2⟩, Hg⟩
  isplitl [HS0]
  · iexists d
    isplitr; · ipureintro; exact fun h => absurd rfl h
    iexact HS0
  isplitl [HS1]; · iexact HS1
  isplitl [HS2]; · iexact HS2
  iexact Hg

/-- and after the last they are handed back. -/
theorem hout (c : Dev nD) : (dats m 0 c).Φ (Fin.last cfg0.N) ⊢ Pipeline.ΦA spec0 c := by
  rw [show (dats m 0 c).Φ (Fin.last cfg0.N) = between m c (Fin.last cfg0.N).val from rfl, handed_eq]
  unfold between
  iintro ⟨⟨%d, -, HS0⟩, HS1, HS2, Hg⟩
  isplitl [HS0 HS1 HS2]
  · isplitl [HS0]
    · iexists d; iexact HS0
    isplitl [HS1]; · iexact HS1
    iexact HS2
  iexact Hg

/-! ## The launch -/

set_option backward.isDefEq.respectTransparency.types false in
/-- Every execution ends, with every array at what the proof data say and every semaphore at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.KernelIdeal.Disk

end
-- ==== Proof.Frames.lean ====
module

public import proofs.«01_k».proof.Defs
public import proofs.«01_k».proof.Proof.Launched
public import proofs.«01_k».proof.Proof.Gen.Kernel
public import proofs.«01_k».proof.Proof.Gen.ReferenceIdeal.Run

/-! The three frames: each program runs from any memory with zero counters, leaves its arguments as they were and
every counter at zero. -/

@[expose] public section

noncomputable section

namespace Cert.Proof

open Idealize.ShloMosaic Idealize.ShloMosaic.TcCoe Idealize.SL.Sem

/-- The frame of the idealized kernel, its text read at the machine's own floats, says word for word what the frame
    of the kernel says: no operation was rewritten, so the two programs have one text. -/
theorem same :
    (∀ (m : (ℓ : Loc Cert.KernelIdeal.nD Cert.KernelIdeal.τ Cert.KernelIdeal.sig) → Buf (Elt Bits) ℓ)
        (g : Dev Cert.KernelIdeal.nD → PrngReg), True →
      θ_run (Cert.KernelIdeal.defs (F := Bits))
        (onTc (τ := Cert.KernelIdeal.τ) (Cert.KernelIdeal.main (F := Bits))) ⟨m, fun _ => 0, g⟩
        (fun r => (∀ c : Dev Cert.KernelIdeal.nD,
            r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1)
            ∧ r.2.mem ((c.tc : Thread Cert.KernelIdeal.nD Cert.KernelIdeal.τ).loc Cert.KernelIdeal.main_arg2)
              = m ((c.tc : Thread Cert.KernelIdeal.nD Cert.KernelIdeal.τ).loc Cert.KernelIdeal.main_arg2))
          ∧ r.2.sem = fun _ => 0)) =
      quiescent_Kernel (hKernel := Cert.Kernel.Gen.facts) := by
  sl_kernel_rfl

/-- The kernel runs, its arguments end unchanged and every counter ends at zero. -/
theorem quiet_kernel : quiescent_Kernel (hKernel := Cert.Kernel.Gen.facts) :=
  same.mp fun m g _ => Cert.KernelIdeal.Disk.quiet (F := Bits) m g

/-- The idealized kernel runs, its arguments end unchanged and every counter ends at zero. -/
theorem quiet_ideal : quiescent_KernelIdeal (hKernelIdeal := Cert.KernelIdeal.Gen.facts) :=
  fun m g _ => Cert.KernelIdeal.Disk.quiet (F := Ideal) m g

/-- The reference runs, its arguments end unchanged and every counter, there being none, is at zero. -/
theorem quiet_reference : quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩)
    (Cert.ReferenceIdeal.Value.run (F := Ideal) m g)

end Cert.Proof

end
-- ==== Proof.Share.lean ====
/- The mathematics both programs compute, over the extended reals: what each pixel scatters to the taps of its disk, and
   what a place of the picture gathers. -/
module

public import Idealize.ShloMosaic.Lib.Pointwise

@[expose] public section

noncomputable section

namespace Cert.Scatter

open Idealize.ShloMosaic

/-- An image of two batches with ten channels. -/
abbrev Image : Type := Vec Ideal ⟨4, ![2, 10, 384, 384]⟩ .f32

/-- The coordinate that tap `s` of place `n` reads, the edge continued. -/
def near (n : Fin 384) (s : Fin 7) : Fin 384 := ⟨min (n.val + (6 - s.val) - 3) 383, by omega⟩

/-- Channel `c` of layer `li`, less its focal plane. -/
def pixel (X Y : Image) (b li : Fin 2) (c : Fin 5) (y x : Fin 384) : EReal :=
  X (ix4 b ⟨5 * li.val + c.val, by omega⟩ y x) - Y (ix4 b ⟨5 * li.val + c.val, by omega⟩ y x)

/-- The squared distance of tap `(i, k)` from the centre. -/
def square (i k : Fin 7) : ℕ := (i.val - 3 + (3 - i.val)) ^ 2 + (k.val - 3 + (3 - k.val)) ^ 2

/-- The distance whose square is `n`, as the float word that both programs hold. -/
def root : ℕ → BitVec 32
  | 0 => 0#32
  | 1 => 1065353216#32
  | 2 => 1068827891#32
  | 4 => 1073741824#32
  | 5 => 1074731965#32
  | 8 => 1077216499#32
  | 9 => 1077936128#32
  | _ => 0#32

/-- Whether the threshold `t` reaches the distance whose square is `n`. -/
def Reaches (t : EReal) (n : ℕ) : Prop := Ideal.ofBits .f32 (root n) ≤ t

open Classical in
/-- `v` where the threshold `t` reaches tap `(i, k)` and the tap is in the disk, else nothing. -/
def within (t v : EReal) (i k : Fin 7) : EReal := if square i k ≤ 9 ∧ Reaches t (square i k) then v else 0

/-- The number of taps of the disk that the threshold `t` reaches. -/
def area (t : EReal) : EReal := ∑ i : Fin 7, ∑ k : Fin 7, within t 1 i k

/-- One over the number of taps, held away from zero. -/
def inverse (t : EReal) : EReal := Ideal.div 1 (area t + Ideal.ofBits .f32 841731191#32)

/-- A pixel's blur radius plus one half. -/
def limit (le d : EReal) : EReal := max (d * le) (-(d * le)) + Ideal.ofBits .f32 1056964608#32

/-- What a pixel scatters in colour `c`: the colour times the opacity; the last is the opacity itself. -/
def colour (w : Fin 5 → EReal) (c : Fin 4) : EReal := if c.val < 3 then w c.castSucc * w 3 else w 3

/-- What a place gathers in colour `c`, from the pixels `w` that its taps read. -/
def gather (le : EReal) (w : Fin 7 → Fin 7 → Fin 5 → EReal) (c : Fin 4) : EReal :=
  ∑ i : Fin 7, ∑ k : Fin 7,
    within (limit le (w i k 4)) (colour (w i k) c * inverse (limit le (w i k 4))) i k

/-- What a place `(y, x)` of layer `li` gathers in colour `c`. -/
def total (X Y : Image) (le : EReal) (b li : Fin 2) (y x : Fin 384) (c : Fin 4) : EReal :=
  gather le (fun i k c => pixel X Y b li c (near y i) (near x k)) c

/-- How much of a place is covered, from the opacity it gathers. -/
def covered (w : EReal) : EReal := min 1 (max 0 w)

/-- Both layers composed, front to back, from what the two gather. -/
def composed (f g : Fin 4 → EReal) (c : Fin 3) : EReal :=
  Ideal.div (f c.castSucc) (f 3 + Ideal.ofBits .f32 841731191#32) * covered (f 3)
    + Ideal.div (g c.castSucc) (g 3 + Ideal.ofBits .f32 841731191#32) * ((1 - covered (f 3)) * covered (g 3))

/-- The picture. -/
def shownAt (X Y : Image) (le : EReal) (b : Fin 2) (c : Fin 3) (y x : Fin 384) : EReal :=
  composed (total X Y le b 0 y x) (total X Y le b 1 y x) c

/-- The whole picture. -/
def picture (X : Image) (L : Vec Ideal ⟨2, ![2, 1]⟩ .f32) (Y : Image) : Vec Ideal ⟨4, ![2, 3, 384, 384]⟩ .f32 :=
  fun j => shownAt X Y (L (ix2 (j 0) 0)) (j 0) (j 1) (j 2) (j 3)

theorem zero_le_limit (le d : EReal) : 0 ≤ limit le d := by
  have h : (0 : EReal) ≤ max (d * le) (-(d * le)) := by
    rcases le_total 0 (d * le) with h | h
    · exact le_max_of_le_left h
    · exact le_max_of_le_right (by simpa using EReal.neg_le_neg_iff.mpr h)
  refine add_nonneg h ?_
  simp [Ideal.ofBits, Ideal.ieee, -EReal.coe_mul]

theorem eps_pos : (0 : EReal) < Ideal.ofBits .f32 841731191#32 := by
  simp [Ideal.ofBits, Ideal.ieee, -EReal.coe_mul]

theorem within_nonneg {t v : EReal} (h : 0 ≤ v) (i k : Fin 7) : 0 ≤ within t v i k := by
  unfold within; split_ifs
  · exact h
  · exact le_rfl

theorem area_nonneg (t : EReal) : 0 ≤ area t :=
  Finset.sum_nonneg fun i _ => Finset.sum_nonneg fun k _ => within_nonneg zero_le_one i k

/-- A sum that is not negative, held away from zero, is not zero. -/
theorem held_ne_zero {a : EReal} (h : 0 ≤ a) : a + Ideal.ofBits .f32 841731191#32 ≠ 0 :=
  (lt_of_lt_of_le eps_pos (le_add_of_nonneg_left h)).ne'

theorem div_nonneg' {a b : EReal} (h : 0 ≤ a) (hb : 0 < b) : 0 ≤ Ideal.div a b := by
  unfold Ideal.div
  rw [if_neg hb.ne']
  exact mul_nonneg h (EReal.inv_nonneg_of_nonneg hb.le)

theorem inverse_nonneg (t : EReal) : 0 ≤ inverse t :=
  div_nonneg' zero_le_one (lt_of_lt_of_le eps_pos (le_add_of_nonneg_left (area_nonneg t)))

/-- Where no opacity is negative, what a place gathers of it is not either. -/
theorem gather_nonneg {le : EReal} {w : Fin 7 → Fin 7 → Fin 5 → EReal} (h : ∀ i k, 0 ≤ w i k 3) : 0 ≤ gather le w 3 :=
  Finset.sum_nonneg fun i _ => Finset.sum_nonneg fun k _ =>
    within_nonneg (mul_nonneg (by simpa [colour] using h i k) (inverse_nonneg _)) i k

/-- A quotient taken after a product is the product of the quotient, where the divisor is not zero. -/
theorem mul_div_swap (a o : EReal) {b : EReal} (hb : b ≠ 0) : a * Ideal.div o b = Ideal.div a b * o := by
  unfold Ideal.div
  rw [if_neg hb, if_neg hb, mul_comm o, ← mul_assoc]

end Cert.Scatter

end
-- ==== Proof.Opacity.lean ====
/- What the precondition says of the pixels: no opacity is negative. -/
module

public import proofs.«01_k».proof.Defs
public import proofs.«01_k».proof.Proof.Share
public import proofs.«01_k».proof.Proof.Gen.Pre_opacities_nonnegative
public import Idealize.ShloMosaic.Lib.WordCmp

@[expose] public section

set_option maxRecDepth 16384

noncomputable section

namespace Cert.Scatter

open Idealize.ShloMosaic

/-- Where the precondition answers one everywhere, no opacity is negative. -/
theorem opacity_nonneg {X Y : Image} {L : Vec Ideal ⟨2, ![2, 1]⟩ .f32} [Cert.Pre_opacities_nonnegative.Facts]
    (h : Cert.Pre_opacities_nonnegative.fn (F := Ideal) X L Y = fun _ => 1#1) (b li : Fin 2) (y x : Fin 384) :
    0 ≤ pixel X Y b li 3 y x := by
  have e := congrFun h (ix4 b li y x)
  revert e
  pointwise [Cert.Pre_opacities_nonnegative.fn]
  intro e
  have e := of_decide_eq_true ((WordCmp.ofBool_eq_one_iff _).mp e)
  have hk : ∀ h, (⟨li.val * 5 + 3, h⟩ : Fin 10) = ⟨5 * li.val + (3 : Fin 5).val, by omega⟩ := fun _ =>
    Fin.ext (congrArg (· + 3) (Nat.mul_comm li.val 5))
  rw [hk] at e
  exact e

end Cert.Scatter

end
-- ==== Proof.Gather.lean ====
/- The kernel's sums, one entry at a time: the sums down the columns, and the sums of those across. -/
module

public import proofs.«01_k».proof.Proof.Picture
public import proofs.«01_k».proof.Proof.Share
public import Idealize.ShloMosaic.Lib.Pointwise

@[expose] public section

set_option maxRecDepth 16384

noncomputable section

namespace Cert.KernelIdeal.Disk

open Cert.KernelIdeal Cert.KernelIdeal.Gen
open Idealize.ShloMosaic Idealize.ShloMosaic.TcCoe

variable (Q : Fin 7 → Vec Ideal S1x4x128x512 .f32) (T : Fin 7 → Vec Ideal S1x1x128x512 .f32)

open Classical in
/-- What offset `uo` adds to column `k` where its threshold reaches the distance whose square is `n`. -/
def part (c : Fin 4) (y : Fin 128) (uo : Fin 7) (n : ℕ) (k : Fin 512) : EReal :=
  if Scatter.Reaches (T uo (ix4 0 0 y k)) n then Q uo (ix4 0 c y k) else 0

variable (c : Fin 4) (y : Fin 128) (k : Fin 512)

/-- The sum of the taps in the column of the place. -/
def column3 : EReal := part Q T c y 0 9 k + part Q T c y 1 4 k + part Q T c y 2 1 k + Q 3 (ix4 0 c y k)
  + part Q T c y 4 1 k + part Q T c y 5 4 k + part Q T c y 6 9 k

/-- The sum of the taps in a column one away. -/
def column2 : EReal := part Q T c y 1 5 k + part Q T c y 2 2 k + part Q T c y 3 1 k + part Q T c y 4 2 k + part Q T c y 5 5 k

/-- The sum of the taps in a column two away. -/
def column1 : EReal := part Q T c y 1 8 k + part Q T c y 2 5 k + part Q T c y 3 4 k + part Q T c y 4 5 k + part Q T c y 5 8 k

/-- The first layer's sum down the column of the place. -/
theorem sum0_3_apply : sum0_3 Q T (ix3 c y k) = column3 Q T c y k := by
  pointwise [column3, sum0_3, k0_pay66, k0_pay64, k0_pay61, k0_pay62, k0_pay63, k0_pay65, part, Scatter.Reaches, Scatter.root]

/-- The first layer's sum down a column one away. -/
theorem sum0_2_apply : sum0_2 Q T (ix3 c y k) = column2 Q T c y k := by
  pointwise [column2, sum0_2, k0_pay70, k0_pay67, k0_pay68, k0_pay69, part, Scatter.Reaches, Scatter.root]

/-- The first layer's sum down a column two away. -/
theorem sum0_1_apply : sum0_1 Q T (ix3 c y k) = column1 Q T c y k := by
  pointwise [column1, sum0_1, k0_pay75, k0_pay73, k0_pay71, k0_pay72, k0_pay74, part, Scatter.Reaches, Scatter.root]

/-- The first layer's sum down a column three away. -/
theorem sum0_0_apply : sum0_0 Q T (ix3 c y k) = part Q T c y 3 9 k := by
  pointwise [sum0_0, k0_pay76, part, Scatter.Reaches, Scatter.root]

/-- The second layer's sum down the column of the place. -/
theorem sum1_3_apply : sum1_3 Q T (ix3 c y k) = column3 Q T c y k := by
  pointwise [column3, sum1_3, k0_pay107, k0_pay105, k0_pay102, k0_pay103, k0_pay104, k0_pay106, part, Scatter.Reaches, Scatter.root]

/-- The second layer's sum down a column one away. -/
theorem sum1_2_apply : sum1_2 Q T (ix3 c y k) = column2 Q T c y k := by
  pointwise [column2, sum1_2, k0_pay113, k0_pay111, k0_pay108, k0_pay109, k0_pay110, k0_pay112, part, Scatter.Reaches, Scatter.root]

/-- The second layer's sum down a column two away, in the two parts that the program keeps. -/
theorem sum1_1_apply : FloatOps.addf (F := Ideal) (φ := .f32) (sum1_1 Q T (ix3 c y k)) (sum1_l Q T (ix3 c y k))
    = column1 Q T c y k := by
  pointwise [column1, sum1_1, sum1_l, k0_pay116, k0_pay115, k0_pay114, part, Scatter.Reaches, Scatter.root]

variable (x : Fin 384)

/-- The first layer's leftmost two columns, added. -/
theorem sum0_h_apply : sum0_h Q T (ix3 c y x)
    = part Q T c y 3 9 ⟨x.val, by omega⟩ + column1 Q T c y ⟨1 + x.val, by omega⟩ := by
  rw [← sum0_0_apply, ← sum0_1_apply]
  pointwise [sum0_h, sum0_0, sum0_1, k0_pay77]

/-- What a place gathers: the seven columns around it, left to right. -/
def across : EReal :=
  part Q T c y 3 9 ⟨x.val, by omega⟩ + column1 Q T c y ⟨1 + x.val, by omega⟩ + column2 Q T c y ⟨2 + x.val, by omega⟩
    + column3 Q T c y ⟨3 + x.val, by omega⟩ + column2 Q T c y ⟨4 + x.val, by omega⟩
    + column1 Q T c y ⟨5 + x.val, by omega⟩ + part Q T c y 3 9 ⟨6 + x.val, by omega⟩

/-- What a place gathers of the first layer, from that layer's sums. -/
theorem across_eq : across Q T c y x = FloatOps.addf (F := Ideal) (φ := .f32) (FloatOps.addf (FloatOps.addf (FloatOps.addf (FloatOps.addf
    (sum0_h Q T (ix3 c y x)) (sum0_2 Q T (ix3 c y ⟨2 + x.val, by omega⟩))) (sum0_3 Q T (ix3 c y ⟨3 + x.val, by omega⟩)))
    (sum0_2 Q T (ix3 c y ⟨4 + x.val, by omega⟩))) (sum0_1 Q T (ix3 c y ⟨5 + x.val, by omega⟩)))
    (sum0_0 Q T (ix3 c y ⟨6 + x.val, by omega⟩)) := by
  rw [sum0_h_apply, sum0_2_apply, sum0_3_apply, sum0_2_apply, sum0_1_apply, sum0_0_apply]
  rfl

/-- The first layer's picture at an element. -/
theorem picture0_apply (c : Fin 3) : picture0 Q T (ix3 c y x)
    = across Q T c.castSucc y x * Ideal.div (Scatter.covered (across Q T 3 y x))
        (across Q T 3 y x + Ideal.ofBits .f32 841731191#32) := by
  rw [across_eq, across_eq]
  pointwise [picture0, k0_pay81, k0_pay78, k0_pay79, k0_pay80, Scatter.covered]
  rfl

/-- What the first layer lets through at an element. -/
theorem through0_apply : through0 Q T (ix2 y x) = 1 - Scatter.covered (across Q T 3 y x) := by
  rw [across_eq]
  pointwise [through0, k0_pay82, k0_pay78, k0_pay79, k0_pay80, Scatter.covered]

/-- The picture of a block at an element, from what its place gathers of either layer. -/
theorem picture_apply (Q : Fin 2 → Fin 7 → Vec Ideal S1x4x128x512 .f32) (T : Fin 2 → Fin 7 → Vec Ideal S1x1x128x512 .f32) (c : Fin 3) :
    picture Q T (ix4 0 c y x)
    = across (Q 0) (T 0) c.castSucc y x * Ideal.div (Scatter.covered (across (Q 0) (T 0) 3 y x))
        (across (Q 0) (T 0) 3 y x + Ideal.ofBits .f32 841731191#32)
      + across (Q 1) (T 1) c.castSucc y x * Ideal.div (Scatter.covered (across (Q 1) (T 1) 3 y x))
        (across (Q 1) (T 1) 3 y x + Ideal.ofBits .f32 841731191#32) * (1 - Scatter.covered (across (Q 0) (T 0) 3 y x)) := by
  rw [← picture0_apply, ← through0_apply]
  unfold across
  simp only [← sum1_3_apply, ← sum1_2_apply, ← sum1_1_apply]
  pointwise [picture, k0_pay6, k0_pay117, Scatter.covered, part, Scatter.Reaches, Scatter.root]
  rfl

end Cert.KernelIdeal.Disk

end
-- ==== Proof.Disk.lean ====
/- Sums over the disk, column by column and ring by ring. -/
module

public import proofs.«01_k».proof.Proof.Share
public import proofs.«01_k».proof.Proof.Field

@[expose] public section

set_option maxRecDepth 16384

noncomputable section

namespace Cert.Scatter

open Idealize.ShloMosaic

/-- The distance from the centre is the same on both sides of it. -/
theorem square_rev : ∀ i k : Fin 7, square i.rev k.rev = square i k := by decide

/-- What a tap adds is the same on both sides of the centre. -/
theorem within_rev (t v : EReal) (i k : Fin 7) : within t v i.rev k.rev = within t v i k := by
  unfold within
  rw [square_rev i k]

/-- A sum over the window, taken from the other end of both axes. -/
theorem sum_rev (f : Fin 7 → Fin 7 → EReal) : ∑ i : Fin 7, ∑ k : Fin 7, f i.rev k.rev = ∑ i : Fin 7, ∑ k : Fin 7, f i k := by
  rw [← Equiv.sum_comp Fin.revPerm fun i => ∑ k, f i k]
  refine Finset.sum_congr rfl fun i _ => ?_
  rw [← Equiv.sum_comp Fin.revPerm fun k => f (Fin.revPerm i) k]
  rfl

/-- The threshold of any pixel reaches the centre. -/
theorem reaches_centre {t : EReal} (h : 0 ≤ t) : Reaches t 0 := by
  exact (Ideal.ofBits_zero_f32).le.trans h

open Classical in
/-- A sum over the disk, column by column. -/
theorem sum_columns (t v : Fin 7 → Fin 7 → EReal) (h : 0 ≤ t 3 3) (p : Fin 7 → Fin 7 → ℕ → EReal)
    (hp : ∀ i k n, p i k n = if Reaches (t i k) n then v i k else 0) :
    ∑ i, ∑ k, within (t i k) (v i k) i k
      = p 3 0 9 + (p 1 1 8 + p 2 1 5 + p 3 1 4 + p 4 1 5 + p 5 1 8) + (p 1 2 5 + p 2 2 2 + p 3 2 1 + p 4 2 2 + p 5 2 5)
        + (p 0 3 9 + p 1 3 4 + p 2 3 1 + v 3 3 + p 4 3 1 + p 5 3 4 + p 6 3 9)
        + (p 1 4 5 + p 2 4 2 + p 3 4 1 + p 4 4 2 + p 5 4 5) + (p 1 5 8 + p 2 5 5 + p 3 5 4 + p 4 5 5 + p 5 5 8) + p 3 6 9 := by
  have w : ∀ i k, within (t i k) (v i k) i k = if square i k ≤ 9 then p i k (square i k) else 0 := by
    intro i k
    rw [hp]
    unfold within
    by_cases hs : square i k ≤ 9 <;> simp [hs]
  have centre : v 3 3 = p 3 3 0 := by rw [hp, if_pos (reaches_centre h)]
  rw [centre]
  simp only [w, Fin.sum_univ_seven]
  simp [square]
  abel

/-- A ring's taps, counted. -/
theorem ring_eq (t : EReal) (n : ℕ) (w : BitVec 32) :
    KernelIdeal.Disk.ring (F := Ideal) t (root n) w = (open Classical in if Reaches t n then Ideal.ofBits .f32 w else 0) := by
  have l : KernelIdeal.Disk.ring (F := Ideal) t (root n) w
      = if Ideal.ofBits .f32 (root n) ≤ t then Ideal.ofBits .f32 w else 0 := by
    pointwise [KernelIdeal.Disk.ring]
  rw [l]
  by_cases h : Reaches t n
  · rw [if_pos (show _ ≤ _ from h), if_pos h]
  · rw [if_neg (show ¬ _ ≤ _ from h), if_neg h]

/-- The floats one, four and eight, as sums of ones. -/
theorem words : Ideal.ofBits .f32 1065353216#32 = 1 ∧ Ideal.ofBits .f32 1082130432#32 = 1 + 1 + 1 + 1
    ∧ Ideal.ofBits .f32 1090519040#32 = 1 + 1 + 1 + 1 + 1 + 1 + 1 + 1 := by
  refine ⟨Ideal.ofBits_one_f32, ?_, ?_⟩ <;> rw [show (1 : EReal) = ((1 : ℝ) : EReal) by norm_cast] <;>
    simp [Ideal.ofBits, Ideal.ieee, -EReal.coe_mul] <;> norm_num <;> norm_cast

open Classical in
/-- The number of taps that a threshold reaches, ring by ring. -/
theorem area_rings {t : EReal} (h : 0 ≤ t) : area t = KernelIdeal.Disk.area (F := Ideal) t := by
  refine (sum_columns (fun _ _ => t) (fun _ _ => 1) h (fun _ _ n => if Reaches t n then 1 else 0) fun _ _ _ => rfl).trans ?_
  have e4 : ∀ n, KernelIdeal.Disk.ring (F := Ideal) t (root n) 1082130432#32
      = (if Reaches t n then 1 else 0) + (if Reaches t n then 1 else 0) + (if Reaches t n then 1 else 0)
        + (if Reaches t n then (1 : EReal) else 0) := by
    intro n
    rw [ring_eq, words.2.1]
    split_ifs <;> simp only [add_zero]
  have e8 : ∀ n, KernelIdeal.Disk.ring (F := Ideal) t (root n) 1090519040#32
      = (if Reaches t n then 1 else 0) + (if Reaches t n then 1 else 0) + (if Reaches t n then 1 else 0)
        + (if Reaches t n then 1 else 0) + (if Reaches t n then 1 else 0) + (if Reaches t n then 1 else 0)
        + (if Reaches t n then 1 else 0) + (if Reaches t n then (1 : EReal) else 0) := by
    intro n
    rw [ring_eq, words.2.2]
    split_ifs <;> simp only [add_zero]
  have a : KernelIdeal.Disk.area (F := Ideal) t = (Ideal.ofBits .f32 1065353216#32 : EReal)
      + KernelIdeal.Disk.ring (F := Ideal) t (root 1) 1082130432#32 + KernelIdeal.Disk.ring (F := Ideal) t (root 2) 1082130432#32
      + KernelIdeal.Disk.ring (F := Ideal) t (root 4) 1082130432#32 + KernelIdeal.Disk.ring (F := Ideal) t (root 5) 1090519040#32
      + KernelIdeal.Disk.ring (F := Ideal) t (root 8) 1082130432#32 + KernelIdeal.Disk.ring (F := Ideal) t (root 9) 1082130432#32 := rfl
  rw [a, e4, e4, e4, e8, e4, e4, words.1]
  abel

end Cert.Scatter

end
-- ==== Proof.Places.lean ====
/- What a place of the kernel's picture gathers is what the mathematics says. -/
module

public import proofs.«01_k».proof.Proof.Gather
public import proofs.«01_k».proof.Proof.Disk
public import proofs.«01_k».proof.Proof.Steps

@[expose] public section

set_option maxRecDepth 16384

noncomputable section

namespace Cert.KernelIdeal.Disk

open Cert.KernelIdeal Cert.KernelIdeal.Gen
open Idealize.ShloMosaic Idealize.ShloMosaic.TcCoe

/-- A pixel's threshold. -/
theorem thr_eq (le d : EReal) : thr (F := Ideal) le d = Scatter.limit le d := rfl

/-- The field of a pixel that is summed in colour `c`. -/
theorem tap_colour (le : EReal) (w : Fin 5 → EReal) (c : Fin 4) :
    tap (F := Ideal) le w c.succ = Scatter.colour w c * Scatter.inverse (Scatter.limit le (w 4)) := by
  have hw : weight (F := Ideal) le (w 4) (w 3) = w 3 * Scatter.inverse (Scatter.limit le (w 4)) := by
    unfold Scatter.inverse
    rw [Scatter.area_rings (Scatter.zero_le_limit le (w 4)), ← Scatter.words.1]
    rfl
  fin_cases c
  · refine (congrArg (w 0 * ·) hw).trans ?_
    rw [← mul_assoc]; rfl
  · refine (congrArg (w 1 * ·) hw).trans ?_
    rw [← mul_assoc]; rfl
  · refine (congrArg (w 2 * ·) hw).trans ?_
    rw [← mul_assoc]; rfl
  · exact hw

variable (le : EReal) (X Y : Vec Ideal S2x10x384x384 .f32) (b : Fin 2) (s : Fin 3) (li : Fin 2) (y : Fin 128) (x : Fin 384)

/-- The row of the picture that row `y` of block `s` is. -/
def rowOf : Fin 384 := ⟨128 * s.val + y.val, by omega⟩

/-- The pixel that tap `(uo, k)`, counted from the top left, reads. -/
abbrev read (uo k : Fin 7) (c : Fin 5) : EReal :=
  Scatter.pixel X Y b li c (Scatter.near (rowOf s y) uo.rev) (Scatter.near x k.rev)

/-- An entry of the padded image is the pixel that the tap reads. -/
theorem padded_read (uo k : Fin 7) (c : Fin 5) (n : Fin 512) (hn : n.val = k.val + x.val) :
    padded X Y b (ix3 (chan li c) (rowAt (128 * s.val + 5 + uo.val + y.val)) n) = read X Y b s li y x uo k c := by
  have h1 : clampRow (rowAt (128 * s.val + 5 + uo.val + y.val)).val = Scatter.near (rowOf s y) uo.rev := by
    apply Fin.ext
    simp only [clampRow, rowAt, Scatter.near, rowOf, Fin.val_rev]
    omega
  have h2 : clampCol n.val = Scatter.near x k.rev := by
    apply Fin.ext
    simp only [clampCol, Scatter.near, Fin.val_rev]
    omega
  unfold read Scatter.pixel
  rw [← h1, ← h2]
  rfl

/-- The channels of the padded image at a tap are those of the pixel it reads. -/
theorem channels_read (uo k : Fin 7) (n : Fin 512) (hn : n.val = k.val + x.val) :
    (fun c => padded X Y b (ix3 (chan li c) (rowAt (128 * s.val + 5 + uo.val + y.val)) n)) = read X Y b s li y x uo k :=
  funext fun c => padded_read X Y b s li y x uo k c n hn

/-- The threshold of the pixel that a tap reads. -/
theorem mark_read (uo k : Fin 7) (n : Fin 512) (hn : n.val = k.val + x.val) :
    mark le (padded X Y b) (128 * s.val) li uo (ix4 0 0 y n) = Scatter.limit le (read X Y b s li y x uo k 4) := by
  rw [← channels_read X Y b s li y x uo k n hn]
  rfl

/-- What the pixel that a tap reads scatters to each of its taps. -/
abbrev given (c : Fin 4) (uo k : Fin 7) : EReal :=
  Scatter.colour (read X Y b s li y x uo k) c * Scatter.inverse (Scatter.limit le (read X Y b s li y x uo k 4))

theorem quad_read (c : Fin 4) (uo k : Fin 7) (n : Fin 512) (hn : n.val = k.val + x.val) :
    quad le (padded X Y b) (128 * s.val) li uo (ix4 0 c y n) = given le X Y b s li y x c uo k := by
  unfold given
  rw [← tap_colour, ← channels_read X Y b s li y x uo k n hn]
  show tap (F := Ideal) le (fun c => padded X Y b (ix3 (chan li c) (rowAt (128 * s.val + 5 + uo.val + y.val)) n))
    ⟨1 + c.val, by omega⟩ = _
  congr 1
  exact Fin.ext (Nat.add_comm 1 c.val)

/-- What a tap adds. -/
theorem part_read (c : Fin 4) (uo k : Fin 7) (m : ℕ) (n : Fin 512) (hn : n.val = k.val + x.val) :
    part (quad le (padded X Y b) (128 * s.val) li) (mark le (padded X Y b) (128 * s.val) li) c y uo m n
      = (open Classical in if Scatter.Reaches (Scatter.limit le (read X Y b s li y x uo k 4)) m then
          given le X Y b s li y x c uo k else 0) := by
  unfold part
  rw [mark_read le X Y b s li y x uo k n hn, quad_read le X Y b s li y x c uo k n hn]

/-- What a place of a block gathers. -/
theorem across_eq_total (c : Fin 4) :
    across (quad le (padded X Y b) (128 * s.val) li) (mark le (padded X Y b) (128 * s.val) li) c y x
      = Scatter.total X Y le b li (rowOf s y) x c := by
  have hp := part_read le X Y b s li y x c
  unfold Scatter.total Scatter.gather
  rw [← Scatter.sum_rev]
  simp only [Scatter.within_rev]
  refine Eq.trans ?_ (Scatter.sum_columns (fun i k => Scatter.limit le (read X Y b s li y x i k 4))
    (fun i k => given le X Y b s li y x c i k) (Scatter.zero_le_limit _ _) _ fun _ _ _ => rfl).symm
  unfold across column1 column2 column3
  rw [quad_read le X Y b s li y x c 3 3 ⟨3 + x.val, by omega⟩ rfl]
  simp only [fun uo m => hp uo 0 m ⟨x.val, by omega⟩ (Nat.zero_add _).symm,
    fun uo m => hp uo 1 m ⟨1 + x.val, by omega⟩ rfl, fun uo m => hp uo 2 m ⟨2 + x.val, by omega⟩ rfl,
    fun uo m => hp uo 3 m ⟨3 + x.val, by omega⟩ rfl, fun uo m => hp uo 4 m ⟨4 + x.val, by omega⟩ rfl,
    fun uo m => hp uo 5 m ⟨5 + x.val, by omega⟩ rfl, fun uo m => hp uo 6 m ⟨6 + x.val, by omega⟩ rfl]

/-- The kernel's picture of a block, at an element. -/
theorem shown_apply (c : Fin 3)
    (h : ∀ li, Scatter.total X Y le b li (rowOf s y) x 3 + Ideal.ofBits .f32 841731191#32 ≠ 0) :
    shown le (padded X Y b) (128 * s.val) (ix4 0 c y x) = Scatter.shownAt X Y le b c (rowOf s y) x := by
  unfold shown
  rw [picture_apply, across_eq_total, across_eq_total, across_eq_total, across_eq_total, Scatter.mul_div_swap _ _ (h 0),
    Scatter.mul_div_swap _ _ (h 1), mul_assoc, mul_comm (Scatter.covered (Scatter.total X Y le b 1 (rowOf s y) x 3))]
  rfl

end Cert.KernelIdeal.Disk

end
-- ==== Proof.Result.lean ====
/- What the kernel leaves in its result, entry by entry. -/
module

public import proofs.«01_k».proof.Proof.Launched
public import proofs.«01_k».proof.Proof.Places

@[expose] public section

set_option maxRecDepth 16384

noncomputable section

namespace Cert.KernelIdeal.Disk

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The lens effects the region finds. -/
def lens (c : Dev nD) : Vec Ideal S2x1 .f32 := m ((c : Thread nD τ).loc main_arg1)

/-- The lens effect that a point's body reads is its batch's. -/
theorem lens_read (c : Dev nD) (t : Fin cfg0.N) : iblk m c 0 t (ix1 (grid0.coords t 0)) = lens m c (ix2 (batch t.val) 0) := by
  have hN : t.val < 8 := lt_of_lt_of_eq t.isLt N_0
  have hb : (batch t.val).val = t.val / 4 := Nat.mod_eq_of_lt (by omega)
  have h0 := coord0 t
  unfold lens
  generalize batch t.val = b at hb
  generalize grid0.coords t 0 = g at h0
  blk_ext! [iblk, V, places t]

/-- Where no gathered opacity cancels the constant that holds it away from zero, the result is the picture. -/
theorem result_eq (c : Dev nD)
    (h : ∀ b li y x, Scatter.total (image m c) (plane m c) (lens m c (ix2 b 0)) b li y x 3 + Ideal.ofBits .f32 841731191#32 ≠ 0) :
    (dats m 0 c).arrAt 3 cfg0.N = Scatter.picture (image m c) (lens m c) (plane m c) := by
  refine (dats m 0 c).arrAt_eq_of_covers 3 _ (by decide +kernel) fun t hf y => ?_
  have ht : t.val % 4 ≠ 0 := of_decide_eq_true ((flush_iff t).symm.trans hf)
  have hN : t.val < 8 := lt_of_lt_of_eq t.isLt N_0
  have hb : (batch t.val).val = t.val / 4 := Nat.mod_eq_of_lt (by omega)
  blk_simp [places t]
  rw [after0_3]
  have y0 : (y 0).val < 1 := (y 0).isLt
  have y1 : (y 1).val < 3 := (y 1).isLt
  have y2 : (y 2).val < 128 := (y 2).isLt
  have y3 : (y 3).val < 384 := (y 3).isLt
  have hy : y = ix4 (0 : Fin 1) (⟨(y 1).val, y1⟩ : Fin 3) (⟨(y 2).val, y2⟩ : Fin 128) (⟨(y 3).val, y3⟩ : Fin 384) := by
    funext a
    fin_cases a <;> exact Fin.ext (by first | rfl | exact Nat.lt_one_iff.mp y0)
  have hp : (win0_3.blk t).view.emb y = ix4 (batch t.val) (⟨(y 1).val, y1⟩ : Fin 3)
      (rowOf ⟨t.val % 4 - 1, by omega⟩ ⟨(y 2).val, y2⟩) (⟨(y 3).val, y3⟩ : Fin 384) := by
    funext a
    fin_cases a <;> refine Fin.ext ?_ <;> blk_simp [places t]
    · exact hb.symm
    · rfl
    · exact congrArg (· + (y 2).val) (Nat.mul_comm _ 128)
    · rfl
  rw [hp]
  refine (congrArg (left m c t) hy).trans ?_
  unfold left field base
  rw [lens_read, coord1]
  exact shown_apply _ _ _ _ ⟨t.val % 4 - 1, by omega⟩ ⟨(y 2).val, y2⟩ ⟨(y 3).val, y3⟩ ⟨(y 1).val, y1⟩ fun li => h _ li _ _

/-- There, every execution ends with the picture, and the arguments as they began. -/
theorem run_shown
    (h : ∀ c b li y x, Scatter.total (image m c) (plane m c) (lens m c (ix2 b 0)) b li y x 3 + Ideal.ofBits .f32 841731191#32 ≠ 0) :
    θ_run defs (onTc (τ := τ) (main (F := Ideal))) ⟨m, fun _ => 0, ρ⟩ fun r => ∀ c : Dev nD,
      r.2.mem ((c.tc : Thread nD τ).loc main_v1) = Scatter.picture (image m c) (lens m c) (plane m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ k c => ⟨(k.1.out_eq c 3).trans (result_eq m c (h c)), k.2.1 c⟩)
    (θ_run_and ((θ_run defs _ _).mono (fun _ k => k.1) (launched m ρ)) (quiet m ρ))

end Cert.KernelIdeal.Disk

end
-- ==== Proof.Taps.lean ====
/- The reference's arrays, one entry at a time: the fields of a pixel, the image continued by its edge, the taps. -/
module

public import proofs.«01_k».proof.Proof.Gen.ReferenceIdeal.Run
public import proofs.«01_k».proof.Proof.Share
public import Idealize.ShloMosaic.Lib.Pointwise

@[expose] public section

set_option maxRecDepth 16384

noncomputable section

namespace Cert.ReferenceIdeal.Disk

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal))

/-- An entry of the image less its focal plane. -/
theorem v1_apply (b li : Fin 2) (c : Fin 5) (y x : Fin 384) :
    res_main_v1 V (ix5 b li c y x)
      = Scatter.pixel (V (Proc.devRef .tc main_arg0)) (V (Proc.devRef .tc main_arg2)) b li c y x := by
  pointwise [res_main_v1]
  unfold Scatter.pixel
  congr 3 <;> apply Fin.ext <;> simp <;> omega

/-- An entry of the fields, continued by their edge. -/
theorem v27_apply (b li : Fin 2) (c : Fin 6) (y x : Fin 390) :
    res_main_v27 V (ix5 b li c y x) = res_main_v21 V (ix5 b li c ⟨min (y.val - 3) 383, by omega⟩ ⟨min (x.val - 3) 383, by omega⟩) := by
  have hc : ∀ (y : Fin 384) (x : Fin 390), res_main_v24 V (ix5 b li c y x) = res_main_v21 V (ix5 b li c y ⟨min (x.val - 3) 383, by omega⟩) := by
    intro y x
    pointwise [res_main_v24, res_main_v22, res_main_v23]
    split_ifs <;> congr 2 <;> apply Fin.ext <;> simp <;> omega
  pointwise [res_main_v27, res_main_v25, res_main_v26]
  simp only [hc]
  split_ifs <;> congr 2 <;> apply Fin.ext <;> simp <;> omega

/-- An entry of the taps: the fields of the pixel that the tap reads. -/
theorem v57_apply (i k : Fin 7) (b li : Fin 2) (c : Fin 6) (y x : Fin 384) :
    res_main_v57 V (ix7 i k b li c y x) = res_main_v21 V (ix5 b li c (Scatter.near y i) (Scatter.near x k)) := by
  have hr : ∀ (y : Fin 390), res_main_v42 V (ix6 k b li c y x) = res_main_v27 V (ix5 b li c y ⟨x.val + (6 - k.val), by omega⟩) := by
    intro y
    pointwise [res_main_v42]
    fin_cases k <;> simp <;> congr 2 <;> apply Fin.ext <;> simp <;> omega
  pointwise [res_main_v57]
  simp only [hr, v27_apply]
  fin_cases i <;> simp <;> congr 2 <;> apply Fin.ext <;> simp [Scatter.near] <;> omega

end Cert.ReferenceIdeal.Disk

end
-- ==== Proof.Windows.lean ====
/- A sum over the two leading axes of an array with seven, read as a double sum at each place of the five that stay. -/
module

public import Idealize.ShloMosaic.Lib.Pointwise

@[expose] public section

noncomputable section

namespace Cert.Windows

open Idealize.ShloMosaic

variable {p q a b c d e : Nat}

/-- Place `(k, l)` of the window over place `j`. -/
def over (j : (⟨5, ![a, b, c, d, e]⟩ : Shape).Idx) (k : Fin p) (l : Fin q) :
    (⟨7, ![p, q, a, b, c, d, e]⟩ : Shape).Idx :=
  ix7 k l (show Fin a from j 0) (show Fin b from j 1) (show Fin c from j 2) (show Fin d from j 3) (show Fin e from j 4)

/-- The places of the long array that lie over a place of the short one are those of its window. -/
theorem over_iff (h : (⟨7, ![p, q, a, b, c, d, e]⟩ : Shape).ReducesTo [0, 1] ⟨5, ![a, b, c, d, e]⟩)
    (j : (⟨5, ![a, b, c, d, e]⟩ : Shape).Idx) (i : (⟨7, ![p, q, a, b, c, d, e]⟩ : Shape).Idx) :
    h.drop i = j ↔ ∃ k : Fin p × Fin q, over j k.1 k.2 = i := by
  constructor
  · rintro rfl
    refine ⟨(i 0, i 1), funext fun n => Fin.ext ?_⟩
    fin_cases n <;> rfl
  · rintro ⟨k, rfl⟩
    funext n
    apply Fin.ext
    fin_cases n <;> rfl

/-- The host's sum over the two leading axes, ideally: the start plus the double sum. -/
theorem sum_leading (h : (⟨7, ![p, q, a, b, c, d, e]⟩ : Shape).ReducesTo [0, 1] ⟨5, ![a, b, c, d, e]⟩)
    (v : (⟨7, ![p, q, a, b, c, d, e]⟩ : Shape).Idx → EReal) (init : EReal) (j : (⟨5, ![a, b, c, d, e]⟩ : Shape).Idx) :
    Ideal.hostReduceAdd h v init j = init + ∑ k : Fin p, ∑ l : Fin q, v (over j k l) := by
  refine congrArg (init + ·) ((Finset.sum_filter_eq_sum_of_fiber _ (fun k : Fin p × Fin q => over j k.1 k.2)
    (fun _ _ same => Prod.ext (congrFun same 0) (congrFun same 1)) (over_iff h j) v).trans ?_)
  rw [Fintype.sum_prod_type]

end Cert.Windows

end
-- ==== Proof.Tables.lean ====
/- The reference's sums: the disk's tables and what one tap adds. -/
module

public import proofs.«01_k».proof.Proof.Taps
public import proofs.«01_k».proof.Proof.Windows
public import Idealize.ShloMosaic.Lib.IdealHost

@[expose] public section

set_option maxRecDepth 16384

noncomputable section

namespace Cert.ReferenceIdeal.Disk

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal))

/-- The image, the lens effect and the focal plane. -/
abbrev image : Scatter.Image := V (Proc.devRef .tc main_arg0)
abbrev lens : Vec Ideal S2x1 .f32 := V (Proc.devRef .tc main_arg1)
abbrev plane : Scatter.Image := V (Proc.devRef .tc main_arg2)

/-- The distance of a tap from the centre. -/
def distance (i k : Fin 7) : EReal := res_main_cst V (ix7 i k 0 0 0 0 0)

/-- One where a tap is in the disk, else nothing. -/
def disk (i k : Fin 7) : EReal := res_main_cst_0 V (ix7 i k 0 0 0 0 0)

theorem dist_word : ∀ i k : Fin 7, Scatter.square i k ≤ 9 →
    lit0 (S7x7x1x1x1x1x1.rowMajor (ix7 i k 0 0 0 0 0)) = Scatter.root (Scatter.square i k) := by
  decide +kernel

theorem mask_word : ∀ i k : Fin 7,
    lit1 (S7x7x1x1x1x1x1.rowMajor (ix7 i k 0 0 0 0 0)) = if Scatter.square i k ≤ 9 then 1065353216#32 else 0#32 := by
  decide +kernel

/-- The mask times the comparison is one where the threshold reaches a tap of the disk, else nothing. -/
theorem hit (i k : Fin 7) (t : EReal) :
    disk V i k
      * FloatOps.uitofp (F := Ideal) FTy.f32 (BitVec.ofBool (decide (distance V i k ≤ t)))
      = Scatter.within t 1 i k := by
  have hm : disk V i k = if Scatter.square i k ≤ 9 then 1 else 0 := by
    refine (congrArg (Ideal.ofBits .f32) (mask_word i k)).trans ?_
    split_ifs
    · exact Ideal.ofBits_one_f32
    · exact Ideal.ofBits_zero_f32
  rw [hm]
  unfold Scatter.within
  by_cases hs : Scatter.square i k ≤ 9
  · have hd : distance V i k = Ideal.ofBits .f32 (Scatter.root (Scatter.square i k)) :=
      congrArg (Ideal.ofBits .f32) (dist_word i k hs)
    rw [hd, if_pos hs, one_mul]
    by_cases h : Scatter.Reaches t (Scatter.square i k)
    · rw [if_pos ⟨hs, h⟩, decide_eq_true (show _ ≤ _ from h)]
      exact congrArg Real.toEReal (by simp)
    · rw [if_neg fun g => h g.2, decide_eq_false (show ¬ _ ≤ _ from h)]
      exact congrArg Real.toEReal (by simp)
  · rw [if_neg hs, zero_mul, if_neg fun g => hs g.1]

/-- What a tap adds: the pixel's value shared over the taps it reaches. -/
theorem shared (t v : EReal) (i k : Fin 7) :
    v * Ideal.div (Scatter.within t 1 i k) (Scatter.area t + Ideal.ofBits .f32 841731191#32)
      = Scatter.within t (v * Scatter.inverse t) i k := by
  unfold Scatter.within
  split_ifs
  · rfl
  · rw [Ideal.zero_div (Scatter.held_ne_zero (Scatter.area_nonneg t)), mul_zero]

variable (b li : Fin 2) (y x : Fin 384)

/-- The pixel of layer `li` at a place. -/
abbrev pix (c : Fin 5) : EReal := Scatter.pixel (image V) (plane V) b li c y x

/-- Field `c` of a pixel: its four colours, its radius, the number of taps it reaches. -/
def fieldOf (c : Fin 6) : EReal := res_main_v21 V (ix5 b li c y x)

/-- Field `c` of the pixel that tap `(i, k)` of a place reads. -/
def tapped (i k : Fin 7) (c : Fin 6) : EReal := res_main_v57 V (ix7 i k b li c y x)

/-- The number of taps of the disk that a threshold reaches, as the reference sums it. -/
theorem area_sum (t : EReal) : (∑ i : Fin 7, ∑ k : Fin 7,
    disk V i k * FloatOps.uitofp (F := Ideal) FTy.f32 (BitVec.ofBool (decide (distance V i k ≤ t)))) = Scatter.area t :=
  Finset.sum_congr rfl fun i _ => Finset.sum_congr rfl fun k _ => hit V i k t

end Cert.ReferenceIdeal.Disk

end
-- ==== Proof.Fields.lean ====
/- The reference's fields of a pixel. -/
module

public import proofs.«01_k».proof.Proof.Tables
public import proofs.«01_k».proof.Proof.Windows
public import Idealize.ShloMosaic.Lib.IdealHost

@[expose] public section

set_option maxRecDepth 16384

noncomputable section

namespace Cert.ReferenceIdeal.Disk

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal)) (b li : Fin 2) (y x : Fin 384)

/-- The number of taps of the disk that a pixel's threshold reaches, as the reference sums it. -/
def reached : EReal := ∑ i : Fin 7, ∑ k : Fin 7, disk V i k * FloatOps.uitofp (F := Ideal) FTy.f32 (BitVec.ofBool
  (decide (distance V i k ≤ Scatter.limit (lens V (ix2 b 0)) (res_main_v1 V (ix5 b li 4 y x)))))

/-- Each field of a pixel, from the pixel's channels. -/
theorem fieldOf_split (c : Fin 6) :
    fieldOf V b li y x c = if h : c.val < 3 then
        (show EReal from res_main_v1 V (ix5 b li ⟨c.val, by omega⟩ y x)) * (show EReal from res_main_v1 V (ix5 b li 3 y x))
      else if h : c.val - 3 < 1 then res_main_v1 V (ix5 b li ⟨3 + (c.val - 3), by omega⟩ y x)
      else if h : c.val - 3 - 1 < 1 then FloatOps.absf (F := Ideal) (φ := .f32)
        ((show EReal from res_main_v1 V (ix5 b li ⟨4 + (c.val - 3 - 1), by omega⟩ y x)) * lens V (ix2 b 0))
      else reached V b li y x := by
  pointwise [fieldOf, res_main_v21, res_main_v3, res_main_v8, Windows.sum_leading]
  rfl

/-- The number of taps a pixel reaches. -/
theorem reached_eq : reached V b li y x = Scatter.area (Scatter.limit (lens V (ix2 b 0)) (pix V b li y x 4)) := by
  unfold reached
  rw [v1_apply, area_sum]

/-- The first four fields of a pixel are what it scatters in each colour. -/
theorem colour_field (c : Fin 4) :
    fieldOf V b li y x (c.castLE (by decide)) = Scatter.colour (pix V b li y x) c := by
  rw [fieldOf_split]
  unfold Scatter.colour
  by_cases h : c.val < 3
  · rw [dif_pos (by exact h), if_pos h, v1_apply, v1_apply]
    rfl
  · obtain rfl : c = 3 := Fin.ext (by omega)
    rw [dif_neg (by decide), dif_pos (by decide), if_neg (by decide), v1_apply]
    rfl

/-- The fifth field of a pixel, plus one half, is its threshold. -/
theorem limit_field : fieldOf V b li y x 4 + Ideal.ofBits .f32 1056964608#32
    = Scatter.limit (lens V (ix2 b 0)) (pix V b li y x 4) := by
  rw [fieldOf_split, dif_neg (by decide), dif_neg (by decide), dif_pos (by decide), v1_apply]
  rfl

/-- The sixth field of a pixel is the number of taps that it reaches. -/
theorem area_field : fieldOf V b li y x 5
    = Scatter.area (Scatter.limit (lens V (ix2 b 0)) (pix V b li y x 4)) := by
  rw [fieldOf_split, dif_neg (by decide), dif_neg (by decide), dif_neg (by decide), reached_eq]

end Cert.ReferenceIdeal.Disk

end
-- ==== Proof.Totals.lean ====
/- What a place of the reference gathers. -/
module

public import proofs.«01_k».proof.Proof.Fields
public import proofs.«01_k».proof.Proof.Windows
public import Idealize.ShloMosaic.Lib.IdealHost

@[expose] public section

set_option maxRecDepth 16384

noncomputable section

namespace Cert.ReferenceIdeal.Disk

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal)) (b li : Fin 2) (y x : Fin 384)

/-- What a place gathers. -/
theorem v73_apply (c : Fin 4) :
    res_main_v73 V (ix5 b li c y x) = Scatter.total (image V) (plane V) (lens V (ix2 b 0)) b li y x c := by
  have h : (show EReal from res_main_v73 V (ix5 b li c y x)) = ∑ i : Fin 7, ∑ k : Fin 7,
      tapped V b li y x i k (c.castLE (by decide))
        * Ideal.div (disk V i k * FloatOps.uitofp (F := Ideal) FTy.f32 (BitVec.ofBool (decide (distance V i k
            ≤ tapped V b li y x i k 4 + Ideal.ofBits .f32 1056964608#32))))
          (tapped V b li y x i k 5 + Ideal.ofBits .f32 841731191#32) := by
    pointwise [res_main_v73, Windows.sum_leading]
    rfl
  refine h.trans ?_
  unfold Scatter.total Scatter.gather
  refine Finset.sum_congr rfl fun i _ => Finset.sum_congr rfl fun k _ => ?_
  have t : ∀ c, tapped V b li y x i k c = fieldOf V b li (Scatter.near y i) (Scatter.near x k) c :=
    fun c => v57_apply V i k b li c y x
  rw [t, t, t, limit_field, area_field, colour_field, hit, shared]

end Cert.ReferenceIdeal.Disk

end
-- ==== Proof.Shown.lean ====
/- What the reference's result is, entry by entry. -/
module

public import proofs.«01_k».proof.Proof.Totals

@[expose] public section

set_option maxRecDepth 16384

noncomputable section

namespace Cert.ReferenceIdeal.Disk

open Cert.ReferenceIdeal Cert.ReferenceIdeal.Gen Cert.ReferenceIdeal.Value
open Idealize.ShloMosaic Idealize.ShloMosaic.TcCoe Idealize.SL.Sem Idealize.ShloMosaic.StableHlo

/-- The clip's bounds, as the words that the program holds. -/
theorem covered_words (w : EReal) :
    Scatter.covered w = min (Ideal.ofBits .f32 1065353216#32) (max (Ideal.ofBits .f32 0#32) w) := by
  rw [Ideal.ofBits_one_f32, Ideal.ofBits_zero_f32]
  rfl

/-- The reference runs; its result is the picture, its arguments end unchanged. -/
theorem run_shown (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = Scatter.picture (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext j
  obtain ⟨b, k, y, x, rfl⟩ : ∃ (b : Fin 2) (k : Fin 3) (y x : Fin 384), j = ix4 b k y x :=
    ⟨j 0, j 1, j 2, j 3, by funext n; fin_cases n <;> rfl⟩
  have t : ∀ (li : Fin 2) (k : Fin 4), res_main_v73 (launchContents m c) (ix5 b li k y x)
      = Scatter.total (m ((c.tc : Thread nD τ).loc main_arg0)) (m ((c.tc : Thread nD τ).loc main_arg2))
        (m ((c.tc : Thread nD τ).loc main_arg1) (ix2 b 0)) b li y x k :=
    fun li k => v73_apply (launchContents m c) b li y x k
  pointwise [res_main_v74, res_main_v75, res_main_v76, res_main_v92]
  refine Eq.trans (b := Scatter.composed (fun k => res_main_v73 (launchContents m c) (ix5 b 0 k y x))
    (fun k => res_main_v73 (launchContents m c) (ix5 b 1 k y x)) k) ?_
    (congrArg₂ (fun f g => Scatter.composed f g k) (funext (t 0)) (funext (t 1)))
  unfold Scatter.composed
  simp only [covered_words]
  rfl

end Cert.ReferenceIdeal.Disk

end
-- ==== Proof.Equal.lean ====
/- Kernel and reference leave equal results. -/
module

public import proofs.«01_k».proof.Defs
public import proofs.«01_k».proof.Proof.Opacity
public import proofs.«01_k».proof.Proof.Result
public import proofs.«01_k».proof.Proof.Shown

@[expose] public section

noncomputable section

namespace Cert.Proof

open Idealize.ShloMosaic Idealize.ShloMosaic.TcCoe Idealize.SL.Sem

/-- Where no opacity is negative, the kernel and the reference both end with the picture, their arguments unchanged. -/
theorem equal : algebraic_KernelIdeal_ReferenceIdeal_pre_opacities_nonnegative
    (hKernelIdeal := Cert.KernelIdeal.Gen.facts) (hReferenceIdeal := Cert.ReferenceIdeal.Gen.facts)
    (hPre_opacities_nonnegative := Cert.Pre_opacities_nonnegative.Gen.facts) := by
  intro m g m' g' hp ha
  refine ⟨fun c => Scatter.picture (Cert.KernelIdeal.Disk.image m c) (Cert.KernelIdeal.Disk.lens m c) (Cert.KernelIdeal.Disk.plane m c), ?_, ?_⟩
  · exact Cert.KernelIdeal.Disk.run_shown m g fun c b li y x =>
      Scatter.held_ne_zero (Scatter.gather_nonneg fun i k => Scatter.opacity_nonneg (hp c) b li _ _)
  · refine (θ_run (Cert.ReferenceIdeal.defs (F := Ideal)) _ _).mono (fun r h c => ⟨(h c).1.trans ?_, (h c).2⟩)
      (Cert.ReferenceIdeal.Disk.run_shown m' g')
    obtain ⟨h0, h1, h2⟩ := ha c
    rw [h0, h1, h2]
    rfl

end Cert.Proof

end
-- ==== Proof.lean ====
/- The claims about the disk renderer, put together: the frames of the three programs and the equality of kernel and
   reference. -/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_opacities_nonnegative

@[expose] public section

noncomputable section

namespace Cert.Proof

/-- The claims hold. -/
theorem claim : Cert.Claim :=
  ⟨Cert.Kernel.Gen.facts, Cert.KernelIdeal.Gen.facts, Cert.ReferenceIdeal.Gen.facts,
    Cert.Pre_opacities_nonnegative.Gen.facts, quiet_kernel, quiet_ideal, fun m g _ => quiet_ideal m g trivial,
    quiet_reference, fun m g _ => quiet_reference m g trivial, trivial, equal⟩

end Cert.Proof

end
